-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_named_and_finite [hPre_named_and_finite : Cert.Pre_named_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_named_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_named_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_named_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_named_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_named_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_named_and_finite [hPre_named_and_finite : Cert.Pre_named_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_named_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_named_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_named_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_named_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_named_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_named_and_finite [hKernelIdeal : Cert.KernelIdeal.Facts] [hPre_named_and_finite : Cert.Pre_named_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_named_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_named_and_finite [hReferenceIdeal : Cert.ReferenceIdeal.Facts] [hPre_named_and_finite : Cert.Pre_named_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_named_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_named_and_finite [hKernelIdeal : Cert.KernelIdeal.Facts] [hReferenceIdeal : Cert.ReferenceIdeal.Facts] [hPre_named_and_finite : Cert.Pre_named_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_named_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_named_and_finite : Cert.Pre_named_and_finite.Facts),
    quiescent_Kernel (hKernel := hKernel)
    ∧ quiescent_KernelIdeal (hKernelIdeal := hKernelIdeal)
    ∧ quiescent_KernelIdeal_pre_named_and_finite (hKernelIdeal := hKernelIdeal) (hPre_named_and_finite := hPre_named_and_finite)
    ∧ quiescent_ReferenceIdeal (hReferenceIdeal := hReferenceIdeal)
    ∧ quiescent_ReferenceIdeal_pre_named_and_finite (hReferenceIdeal := hReferenceIdeal) (hPre_named_and_finite := hPre_named_and_finite)
    ∧ preserves_Kernel_KernelIdeal
    ∧ algebraic_KernelIdeal_ReferenceIdeal_pre_named_and_finite (hKernelIdeal := hKernelIdeal) (hReferenceIdeal := hReferenceIdeal) (hPre_named_and_finite := hPre_named_and_finite)
-- ==== Pre_named_and_finite.lean ====
abbrev S2048 : Shape := ⟨1, ![2048]⟩
abbrev S2048x2048x64 : Shape := ⟨3, ![2048, 2048, 64]⟩
abbrev S64x64 : Shape := ⟨2, ![64, 64]⟩
abbrev S64 : Shape := ⟨1, ![64]⟩
abbrev S_ : Shape := ⟨0, ![]⟩

class Facts : Prop where
  bcast_S_S2048 : S_.BroadcastsInDim S2048 (![] : Fin 0 → Fin S2048.rank)
  bcast_S_S2048x2048x64 : S_.BroadcastsInDim S2048x2048x64 (![] : Fin 0 → Fin S2048x2048x64.rank)
  bcast_S_S64x64 : S_.BroadcastsInDim S64x64 (![] : Fin 0 → Fin S64x64.rank)
  bcast_S_S64 : S_.BroadcastsInDim S64 (![] : Fin 0 → Fin S64.rank)

variable [Facts]

def fn {F : FTy → Type} [FloatOps F] (main_arg0 : IVec S2048 32) (main_arg1 : FVec F S2048x2048x64 .f32) (main_arg2 : FVec F S64x64 .f32) (main_arg3 : FVec F S64x64 .f32) (main_arg4 : FVec F S64 .f32) (main_arg5 : FVec F S64x64 .f32) (main_arg6 : FVec F S64 .f32) : IVec S2048 1 × IVec S2048x2048x64 1 × IVec S64x64 1 × IVec S64x64 1 × IVec S64 1 :=
  let main_c : IVec S_ 32 := constantI S_ 32 0#32
  let main_v0 : IVec S2048 32 := broadcastInDim S2048 ![] bcast_S_S2048 main_c
  let main_v1 : IVec S2048 1 := cmpi .sge main_arg0 main_v0
  let main_c_0 : IVec S_ 32 := constantI S_ 32 64#32
  let main_v2 : IVec S2048 32 := broadcastInDim S2048 ![] bcast_S_S2048 main_c_0
  let main_v3 : IVec S2048 1 := cmpi .slt main_arg0 main_v2
  let main_v4 : IVec S2048 1 := andi main_v1 main_v3
  let main_v5 : FVec F S2048x2048x64 .f32 := Host.absf main_arg1
  let main_cst : FVec F S_ .f32 := constant S_ .f32 0x7F800000#32
  let main_v6 : FVec F S2048x2048x64 .f32 := broadcastInDim S2048x2048x64 ![] bcast_S_S2048x2048x64 main_cst
  let main_v7 : IVec S2048x2048x64 1 := cmpf .olt main_v5 main_v6
  let main_v8 : FVec F S64x64 .f32 := Host.absf main_arg2
  let main_cst_1 : FVec F S_ .f32 := constant S_ .f32 0x7F800000#32
  let main_v9 : FVec F S64x64 .f32 := broadcastInDim S64x64 ![] bcast_S_S64x64 main_cst_1
  let main_v10 : IVec S64x64 1 := cmpf .olt main_v8 main_v9
  let main_v11 : FVec F S64x64 .f32 := Host.absf main_arg3
  let main_cst_2 : FVec F S_ .f32 := constant S_ .f32 0x7F800000#32
  let main_v12 : FVec F S64x64 .f32 := broadcastInDim S64x64 ![] bcast_S_S64x64 main_cst_2
  let main_v13 : IVec S64x64 1 := cmpf .olt main_v11 main_v12
  let main_v14 : FVec F S64 .f32 := Host.absf main_arg4
  let main_cst_3 : FVec F S_ .f32 := constant S_ .f32 0x7F800000#32
  let main_v15 : FVec F S64 .f32 := broadcastInDim S64 ![] bcast_S_S64 main_cst_3
  let main_v16 : IVec S64 1 := cmpf .olt main_v14 main_v15
  (main_v4, main_v7, main_v10, main_v13, main_v16)
-- ==== Kernel.lean ====
abbrev S2048 : Shape := ⟨1, ![2048]⟩
abbrev S2048x2048x64 : Shape := ⟨3, ![2048, 2048, 64]⟩
abbrev S64x64 : Shape := ⟨2, ![64, 64]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S8x64 : Shape := ⟨2, ![8, 64]⟩
abbrev S2x2048x8x64 : Shape := ⟨4, ![2, 2048, 8, 64]⟩
abbrev S2 : Shape := ⟨1, ![2]⟩
abbrev S1 : Shape := ⟨1, ![1]⟩
abbrev S_ : Shape := ⟨0, ![]⟩
abbrev S1x2048x8x64 : Shape := ⟨4, ![1, 2048, 8, 64]⟩
abbrev S2048x8x64 : Shape := ⟨3, ![2048, 8, 64]⟩
abbrev S524288x8x64 : Shape := ⟨3, ![524288, 8, 64]⟩
abbrev S16384x64 : Shape := ⟨2, ![16384, 64]⟩
abbrev S1x2048 : Shape := ⟨2, ![1, 2048]⟩
abbrev S1x1 : Shape := ⟨2, ![1, 1]⟩
abbrev S8x1 : Shape := ⟨2, ![8, 1]⟩

abbrev nBuf : Space → Nat
  | .hbm => 18
  | .vmem => 10
  | .smem => 0
  | _ => 0

abbrev bufTy : (tb : Table) → Fin (tcTables nBuf tb) → BufTy
  | .hbm, ⟨0, _⟩ => ⟨S2048, .i32⟩
  | .hbm, ⟨1, _⟩ => ⟨S2048x2048x64, .f32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S2048x1, .i32⟩
  | .hbm, ⟨8, _⟩ => ⟨S1x64, .i32⟩
  | .hbm, ⟨9, _⟩ => ⟨S2048x64, .i32⟩
  | .hbm, ⟨10, _⟩ => ⟨S2048x64, .i32⟩
  | .hbm, ⟨11, _⟩ => ⟨S2048x64, .i1⟩
  | .hbm, ⟨12, _⟩ => ⟨S2048x64, .f32⟩
  | .hbm, ⟨13, _⟩ => ⟨S64x64, .f32⟩
  | .hbm, ⟨14, _⟩ => ⟨S64x64, .f32⟩
  | .hbm, ⟨15, _⟩ => ⟨S1x64, .f32⟩
  | .hbm, ⟨16, _⟩ => ⟨S1x64, .f32⟩
  | .hbm, ⟨17, _⟩ => ⟨S2048x64, .f32⟩
  | .local _ .vmem, ⟨0, _⟩ => ⟨S8x64, .f32⟩
  | .local _ .vmem, ⟨1, _⟩ => ⟨S8x64, .f32⟩
  | .local _ .vmem, ⟨2, _⟩ => ⟨S64x64, .f32⟩
  | .local _ .vmem, ⟨3, _⟩ => ⟨S64x64, .f32⟩
  | .local _ .vmem, ⟨4, _⟩ => ⟨S1x64, .f32⟩
  | .local _ .vmem, ⟨5, _⟩ => ⟨S64x64, .f32⟩
  | .local _ .vmem, ⟨6, _⟩ => ⟨S1x64, .f32⟩
  | .local _ .vmem, ⟨7, _⟩ => ⟨S8x64, .f32⟩
  | .local _ .vmem, ⟨8, _⟩ => ⟨S8x64, .f32⟩
  | .local _ .vmem, ⟨9, _⟩ => ⟨S2x2048x8x64, .f32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![256], ![false]⟩

def k0_cond2 (i : grid0.Coords) : BitVec 1 :=
  let arg0 : BitVec 32 := BitVec.ofNat 32 (i 0).val
  let c1_i32 : BitVec 32 := 1#32
  let v3 : BitVec 32 := Scalar.addi arg0 c1_i32
  let c256_i32 : BitVec 32 := 256#32
  let v4 : BitVec 1 := Scalar.cmpi .slt v3 c256_i32
  let v5 : BitVec 32 := Scalar.extui v4
  let c0_i32_1 : BitVec 32 := 0#32
  let v6 : BitVec 1 := Scalar.cmpi .ne v5 c0_i32_1
  v6

def k0_off1 (i : grid0.Coords) : Fin 1 → Nat :=
  let arg0 : BitVec 32 := BitVec.ofNat 32 (i 0).val
  let c1_i32_141 : BitVec 32 := 1#32
  let v206 : BitVec 32 := Scalar.addi arg0 c1_i32_141
  let c2_i32_142 : BitVec 32 := 2#32
  let c0_i32_143 : BitVec 32 := 0#32
  let v207 : BitVec 1 := Scalar.cmpi .eq c2_i32_142 c0_i32_143
  let c1_i32_144 : BitVec 32 := 1#32
  let v208 : BitVec 32 := Scalar.select v207 c1_i32_144 c2_i32_142
  let v209 : BitVec 32 := Scalar.remsi v206 v208
  let c0_i32_146 : BitVec 32 := 0#32
  let v211 : BitVec 1 := Scalar.cmpi .slt v209 c0_i32_146
  let c0_i32_147 : BitVec 32 := 0#32
  let v212 : BitVec 1 := Scalar.cmpi .slt v208 c0_i32_147
  let v213 : BitVec 1 := Scalar.xori v211 v212
  let c0_i32_145 : BitVec 32 := 0#32
  let v210 : BitVec 1 := Scalar.cmpi .ne v209 c0_i32_145
  let v214 : BitVec 1 := Scalar.andi v213 v210
  let v215 : BitVec 32 := Scalar.addi v209 v208
  let v216 : BitVec 32 := Scalar.select v214 v215 v209
  ![v216.toNat]
def k0_off2 (i : grid0.Coords) : Fin 4 → Nat :=
  let arg0 : BitVec 32 := BitVec.ofNat 32 (i 0).val
  let c1_i32_141 : BitVec 32 := 1#32
  let v206 : BitVec 32 := Scalar.addi arg0 c1_i32_141
  let c2_i32_142 : BitVec 32 := 2#32
  let c0_i32_143 : BitVec 32 := 0#32
  let v207 : BitVec 1 := Scalar.cmpi .eq c2_i32_142 c0_i32_143
  let c1_i32_144 : BitVec 32 := 1#32
  let v208 : BitVec 32 := Scalar.select v207 c1_i32_144 c2_i32_142
  let v209 : BitVec 32 := Scalar.remsi v206 v208
  let c0_i32_146 : BitVec 32 := 0#32
  let v211 : BitVec 1 := Scalar.cmpi .slt v209 c0_i32_146
  let c0_i32_147 : BitVec 32 := 0#32
  let v212 : BitVec 1 := Scalar.cmpi .slt v208 c0_i32_147
  let v213 : BitVec 1 := Scalar.xori v211 v212
  let c0_i32_145 : BitVec 32 := 0#32
  let v210 : BitVec 1 := Scalar.cmpi .ne v209 c0_i32_145
  let v214 : BitVec 1 := Scalar.andi v213 v210
  let v215 : BitVec 32 := Scalar.addi v209 v208
  let v216 : BitVec 32 := Scalar.select v214 v215 v209
  let c0_i32_149 : BitVec 32 := 0#32
  let c0_i32_150 : BitVec 32 := 0#32
  let c0_i32_151 : BitVec 32 := 0#32
  ![v216.toNat, 0, 0, 0]
def k0_off3 (i : grid0.Coords) : Fin 3 → Nat :=
  let arg0 : BitVec 32 := BitVec.ofNat 32 (i 0).val
  let c1_i32_140 : BitVec 32 := 1#32
  let v205 : BitVec 32 := Scalar.addi arg0 c1_i32_140
  let c2048_i32_148 : BitVec 32 := 2048#32
  let v217 : BitVec 32 := Scalar.muli v205 c2048_i32_148
  let c0_i32_152 : BitVec 32 := 0#32
  let c0_i32_153 : BitVec 32 := 0#32
  ![v217.toNat, 0, 0]
def k0_off4 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off5 (i : grid0.Coords) : Fin 4 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_7 : BitVec 32 := 0#32
  let c0_i32_8 : BitVec 32 := 0#32
  let c0_i32_9 : BitVec 32 := 0#32
  ![v16.toNat, 0, 0, 0]
def k0_off6 (i : grid0.Coords) : Fin 3 → Nat :=
  let arg0 : BitVec 32 := BitVec.ofNat 32 (i 0).val
  let c2048_i32 : BitVec 32 := 2048#32
  let v17 : BitVec 32 := Scalar.muli arg0 c2048_i32
  let c0_i32_10 : BitVec 32 := 0#32
  let c0_i32_11 : BitVec 32 := 0#32
  ![v17.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2048 : Shape := ⟨1, ![2048]⟩
abbrev S2048x2048x64 : Shape := ⟨3, ![2048, 2048, 64]⟩
abbrev S64x64 : Shape := ⟨2, ![64, 64]⟩
abbrev S64 : Shape := ⟨1, ![64]⟩
abbrev S_ : Shape := ⟨0, ![]⟩
abbrev S2048x1 : Shape := ⟨2, ![2048, 1]⟩
abbrev S2048x64 : Shape := ⟨2, ![2048, 64]⟩
abbrev S1x64 : Shape := ⟨2, ![1, 64]⟩
abbrev S2048x2048 : Shape := ⟨2, ![2048, 2048]⟩

abbrev nBuf : Space → Nat
  | .hbm => 46
  | .vmem => 0
  | .smem => 0
  | _ => 0

abbrev bufTy : (tb : Table) → Fin (tcTables nBuf tb) → BufTy
  | .hbm, ⟨0, _⟩ => ⟨S2048, .i32⟩
  | .hbm, ⟨1, _⟩ => ⟨S2048x2048x64, .f32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .i32⟩
  | .hbm, ⟨8, _⟩ => ⟨S2048, .i32⟩
  | .hbm, ⟨9, _⟩ => ⟨S2048, .i1⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S2048, .i32⟩
  | .hbm, ⟨14, _⟩ => ⟨S2048x1, .i32⟩
  | .hbm, ⟨15, _⟩ => ⟨S2048x64, .f32⟩
  | .hbm, ⟨16, _⟩ => ⟨S64x64, .f32⟩
  | .hbm, ⟨17, _⟩ => ⟨S2048x64, .f32⟩
  | .hbm, ⟨18, _⟩ => ⟨S1x64, .f32⟩
  | .hbm, ⟨19, _⟩ => ⟨S2048x64, .f32⟩
  | .hbm, ⟨20, _⟩ => ⟨S2048x64, .f32⟩
  | .hbm, ⟨21, _⟩ => ⟨S2048x2048, .f32⟩
  | .hbm, ⟨22, _⟩ => ⟨S_, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S_, .f32⟩
  | .hbm, ⟨29, _⟩ => ⟨S2048, .f32⟩
  | .hbm, ⟨30, _⟩ => ⟨S2048, .f32⟩
  | .hbm, ⟨31, _⟩ => ⟨S2048x1, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x2048, .f32⟩
  | .hbm, ⟨39, _⟩ => ⟨S2048x2048, .f32⟩
  | .hbm, ⟨40, _⟩ => ⟨S2048x64, .f32⟩
  | .hbm, ⟨41, _⟩ => ⟨S64x64, .f32⟩
  | .hbm, ⟨42, _⟩ => ⟨S2048x64, .f32⟩
  | .hbm, ⟨43, _⟩ => ⟨S1x64, .f32⟩
  | .hbm, ⟨44, _⟩ => ⟨S2048x64, .f32⟩
  | .hbm, ⟨45, _⟩ => ⟨S2048x64, .f32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Proof.Ring.lean ====
/- The transfer ring of `cc0_read_gate_fused`: the memory, seen as 524288 × 8 × 64, streamed in 256 blocks of 2048 leading
   rows through the two slots of the scratch, one block ahead. Here are the ring's slots, blocks and cells under names of
   their own, the assertions it is stated over (Lib/Ring.lean's families), what the launch hands it and takes back, and the
   equations that put the body's operands at a grid point into those names. -/
module

public import proofs.«01_k».proof.Proof.Gen.KernelIdeal.Frame
public import proofs.«01_k».proof.Proof.Gen.KernelIdeal.Skeleton

@[expose] public section

set_option maxRecDepth 16384

noncomputable section

namespace Cert.KernelIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

/-! ## The two branches of the body -/

/-- The first branch (start block 0): taken at the first point only. -/
abbrev atFirst (i : grid0.Coords) : Prop :=
  (Scalar.cmpi .ne (Scalar.extui (Scalar.cmpi .eq (BitVec.ofNat 32 (i 0).val) 0#32)) 0#32) = 1#1
/-- The second branch (start the next block): taken at every point but the last. -/
abbrev hasNext (i : grid0.Coords) : Prop := k0_cond2 i = 1#1
theorem atFirst_iff : ∀ t : Fin cfg0.N, atFirst (grid0.coords t) ↔ t.val = 0 :=
  (by decide +kernel : ∀ t : Fin grid0.N, atFirst (grid0.coords t) ↔ t.val = 0)
theorem hasNext_iff : ∀ t : Fin cfg0.N, hasNext (grid0.coords t) ↔ t.val < 255 :=
  (by decide +kernel : ∀ t : Fin grid0.N, hasNext (grid0.coords t) ↔ t.val < 255)

/-! ## What the kernel takes whole -/

/-- The scratch the slots are cut from, -/
abbrev scr : Memref sig .tc .vmem S2x2048x8x64 .f32 := Memref.whole cc0_scratch0
/-- the memory, -/
abbrev memW : Memref sig .tc .hbm S2048x2048x64 .f32 := Memref.whole main_arg1
/-- and the memory as the transfers view it. -/
abbrev memT : Memref sig .tc .hbm S524288x8x64 .f32 :=
  memW.reshape S524288x8x64 reshapes_S2048x2048x64_S524288x8x64.1 reshapes_S2048x2048x64_S524288x8x64.2 (Memref.isWhole_whole main_arg1).contiguous
/-- The contents type of a memref's buffer on core `c`, and the buffer held whole. -/
abbrev Cont (c : Dev nD) {sp : Space} {S : Shape} {e : EltTy} (M : Memref sig .tc sp S e) : Type := Buf (Elt F) (M.view.loc (c : Thread nD τ))
abbrev heldWhole (c : Dev nD) {sp : Space} {S : Shape} {e : EltTy} (M : Memref sig .tc sp S e) (f : Cont (F := F) c M) : sProp 𝕄 :=
  M.view.loc (c : Thread nD τ) ↦{fullShare} f

/-- The kernel's own cells, by their numbers in the pool. -/
abbrev ownCells : Fin 2 → SemLoc sig := fun j => (![SemLoc.dma 9, SemLoc.dma 10] : Fin 2 → SemLoc sig) j
theorem ownCells_facts : Pipeline.OwnSemFacts spec0 ownCells := by decide
theorem ownCells_eq (c : Dev nD) :
    (Pipeline.ownSems0 (Ix := Unit) (Name := ℕ) (U := Pipeline.UD sig nD τ) (Lvl := ℕ) (Val := Elt F) (τ := τ) ownCells c : sProp 𝕄)
      = iprop(semVal ((c : Thread nD τ), SemLoc.dma 9) 0 ∗ semVal ((c : Thread nD τ), SemLoc.dma 10) 0) := by
  rw [Pipeline.ownSems0_eq_of_list c ownCells [0, 1] (by decide) (by decide)]; rfl
/-- The one operand the body moves itself. -/
def moved : Finset (Ref sig .tc) := {main_arg1}
theorem moved_sub : moved ⊆ Pipeline.restRefs sig spec0 := by decide
theorem moved_eq (c : Dev nD) :
    (bigSep moved (fun b => ((c : Thread nD τ).loc b) ↦{fullShare} V m c b) : sProp 𝕄) = iprop(heldWhole c memW (V m c main_arg1)) := by
  rw [BI.bigSep_eq_bigSepL_of_eq [main_arg1] (by decide) (by decide)]; rfl

/-- The scratch operands the region hands the body, listed. -/
theorem scratch_eq (c : Dev nD) :
    (Pipeline.ΦD ownCells spec0 moved (V m) c : sProp 𝕄)
      = iprop(iprop((∃ d, owns (c : Thread nD τ) scr fullShare d)) ∗ (∃ r, prngReg c r) ∗ iprop(semVal ((c : Thread nD τ), SemLoc.dma 9) 0 ∗ semVal ((c : Thread nD τ), SemLoc.dma 10) 0) ∗ iprop(heldWhole c memW (V m c main_arg1))) := by
  rw [Pipeline.ΦD_eq, scopedRest0_eq, ownCells_eq, moved_eq]; simp only [scr, owns_whole]; try rfl

/-! ## Slots, blocks, cells -/

instance : NeZero grid0.N := ⟨by rw [N_0]; decide⟩
theorem slot_inb (s : Fin 2) : ∀ a, (![s.val, 0, 0, 0] : Fin 4 → Nat) a + S1x2048x8x64.size a ≤ S2x2048x8x64.size a := by
  have := s.isLt; intro a; fin_cases a <;> simp <;> omega
theorem block_inb (b : Fin 256) : ∀ a, (![2048 * b.val, 0, 0] : Fin 3 → Nat) a + S2048x8x64.size a ≤ S524288x8x64.size a := by
  have := b.isLt; intro a; fin_cases a <;> simp <;> omega
theorem cell_inb (s : Fin 2) : ∀ a, (![s.val] : Fin 1 → Nat) a + S1.size a ≤ S2.size a := by
  have := s.isLt; intro a; fin_cases a <;> simp <;> omega
/-- Slot `s`. -/
def slot (s : Fin 2) : Memref sig .tc .vmem S2048x8x64 .f32 :=
  (scr.slice (Rect.unit (s := S2x2048x8x64) ![s.val, 0, 0, 0] S1x2048x8x64.size (slot_inb s)) (fun _ => rfl)).squeeze S2048x8x64 squeezes_S1x2048x8x64_S2048x8x64
/-- Block `b` of the memory. -/
def block (b : Fin 256) : Memref sig .tc .hbm S2048x8x64 .f32 :=
  memT.slice (Rect.unit (s := S524288x8x64) ![2048 * b.val, 0, 0] S2048x8x64.size (block_inb b)) (fun _ => rfl)
/-- The cell slot `s` completes on. -/
def cellArr (s : Fin 2) : DmaSems sig S_ := (cc0_scratch1.slice (Rect.unit (s := S2) ![s.val] S1.size (cell_inb s))).squeeze S_ squeezes_S1_S_
abbrev cell (s : Fin 2) : SemLoc sig := SemLoc.dma (cellArr s).sem
theorem cell_0 : cell 0 = SemLoc.dma 9 := by decide
theorem cell_1 : cell 1 = SemLoc.dma 10 := by decide

section Families
variable (c : Dev nD) (W : Cont (F := F) c memW)
/-- Each slot borrows from a share of the memory of its own. -/
abbrev shr (s : Fin 2) : PosShare TreeShare := if s.val = 0 then fullShare.left else fullShare.right
abbrev slotAt (s : Fin 2) (f : Cont (F := F) c (slot s)) : sProp 𝕄 := (slot s).view.loc (c : Thread nD τ) ↦[(slot s).view.set]{fullShare} f
abbrev cellAt (s : Fin 2) : sProp 𝕄 := semVal ((c : Thread nD τ), cell s) 0
abbrev lentAt (s : Fin 2) (b : Fin 256) : sProp 𝕄 := (block b).view.loc (c : Thread nD τ) ↦[(block b).view.set]{shr s} W
def restAt (s : Fin 2) (b : Fin 256) : sProp 𝕄 := ((c : Thread nD τ).loc main_arg1) ↦[Finset.univ \ (block b).view.set]{shr s} W
abbrev wholeAt (s : Fin 2) : sProp 𝕄 := ((c : Thread nD τ).loc main_arg1) ↦[Finset.univ]{shr s} W
/-- Slot `s` with block `b` landed in it. -/
abbrev landed (s : Fin 2) (b : Fin 256) (f : Cont (F := F) c (slot s)) : Cont (F := F) c (slot s) :=
  (slot s).view.writes (Elt F) f [⟨Rect.whole S2048x8x64, ReadAs.same.apply ((block b).view.read (Elt F) W)⟩]
/-- Block `b` on its way into slot `s`. -/
abbrev flightAt (s : Fin 2) (b : Fin 256) (f : Cont (F := F) c (slot s)) : sProp 𝕄 :=
  Transfers.Flight countersEmb (c : Thread nD τ) (cell s) default ((slot s).view.amount (cell s))
    iprop(slotAt c s (landed c W s b f) ∗ lentAt c W s b)
abbrev slotF (s : Fin 2) (f : Cont (F := F) c (slot s)) : sProp 𝕄 := iprop(slotAt c s f ∗ wholeAt c W s)
abbrev flightF (s : Fin 2) (b : Fin 256) (f : Cont (F := F) c (slot s)) : sProp 𝕄 := iprop(flightAt c W s b f ∗ restAt c W s b)
abbrev homeF (b : Fin 256) : sProp 𝕄 := iprop(emp)
/-- The ring before point `k`: all free at first; afterwards block `k` in flight and block `k - 1` kept in the other slot. -/
def ringAt (k : ℕ) : sProp 𝕄 :=
  if k = 0 then Ring.At₀ (cellAt c) (slotF c W) homeF
  else Ring.AtK 1 (cellAt c) (slotF c W) homeF (flightF c W) (landed c W) k
omit [FloatOps F] in
theorem cellAt_0 : cellAt (F := F) c 0 = semVal ((c : Thread nD τ), SemLoc.dma 9) 0 := congrArg (fun x => (semVal ((c : Thread nD τ), x) 0 : sProp 𝕄)) cell_0
omit [FloatOps F] in
theorem cellAt_1 : cellAt (F := F) c 1 = semVal ((c : Thread nD τ), SemLoc.dma 10) 0 := congrArg (fun x => (semVal ((c : Thread nD τ), x) 0 : sProp 𝕄)) cell_1
end Families

/-! ## The slots tile the scratch -/

abbrev slotSet (s : Fin 2) : Finset S2x2048x8x64.Idx := (Rect.unit (s := S2x2048x8x64) ![s.val, 0, 0, 0] S1x2048x8x64.size (slot_inb s)).set
theorem slotSet_eq (s : Fin 2) : (slot s).view.set = slotSet s := by
  simp only [slot, Memref.view_squeeze, View.set_reshape]; exact View.set_slice_whole _ _
theorem slots_disjoint (s s' : Fin 2) (h : s ≠ s') : Disjoint (slotSet s) (slotSet s') :=
  Ring.lead_disjoint (s := S2x2048x8x64) (0 : Fin 4) 1 (fun s : Fin 2 => (![s.val, 0, 0, 0] : Fin 4 → Nat)) S1x2048x8x64.size slot_inb (fun s => by simp) rfl s s' h
theorem slots_cover : Finset.univ.biUnion slotSet = Finset.univ :=
  Ring.lead_cover (s := S2x2048x8x64) (0 : Fin 4) 1 (fun s : Fin 2 => (![s.val, 0, 0, 0] : Fin 4 → Nat)) S1x2048x8x64.size slot_inb (fun s => by simp)
    (fun s a ha => by fin_cases a <;> first | exact absurd rfl ha | rfl) rfl (fun a ha => by fin_cases a <;> first | exact absurd rfl ha | rfl) rfl

/-! ## Into and out of the ring -/

section InOut
variable (c : Dev nD) (W : Cont (F := F) c memW)
theorem slotAt_eq (s : Fin 2) (f) : slotAt (F := F) c s f = (((c : Thread nD τ).loc cc0_scratch0) ↦[slotSet s]{fullShare} f : sProp 𝕄) := by
  unfold slotAt; rw [slotSet_eq]; rfl
/-- A share of the memory is a block's elements and the rest. -/
theorem lend (s : Fin 2) (b : Fin 256) : wholeAt (F := F) c W s ⊣⊢ iprop(lentAt c W s b ∗ restAt c W s b) := by
  unfold restAt; exact pointsTo_split_subset (Finset.subset_univ _)
theorem halves : (heldWhole c memW W : sProp 𝕄) ⊣⊢ iprop(wholeAt c W 0 ∗ wholeAt c W 1) :=
  pointsTo_share (PosShare.mem_left_op_right fullShare)
set_option maxHeartbeats 1000000 in
theorem slots_in : iprop(∃ d, owns (c : Thread nD τ) scr fullShare d) ⊢ (iprop((∃ f, slotAt (F := F) c 0 f) ∗ ∃ f, slotAt (F := F) c 1 f) : sProp 𝕄) := by
  simp only [scr, owns_whole]
  exact Ring.slots2_split (U := Pipeline.UD sig nD τ) (ℓ := (c : Thread nD τ).loc cc0_scratch0) (q := fullShare) slotSet slots_disjoint slots_cover
    (slotAt c 0) (slotAt c 1) (slotAt_eq c 0) (slotAt_eq c 1)
set_option maxHeartbeats 1000000 in
theorem slots_out : (iprop((∃ f, slotAt (F := F) c 0 f) ∗ ∃ f, slotAt (F := F) c 1 f) : sProp 𝕄) ⊢ iprop(∃ d, owns (c : Thread nD τ) scr fullShare d) := by
  simp only [scr, owns_whole]
  exact Ring.slots2_join (U := Pipeline.UD sig nD τ) (ℓ := (c : Thread nD τ).loc cc0_scratch0) (q := fullShare) slotSet slots_disjoint slots_cover
    (slotAt c 0) (slotAt c 1) (slotAt_eq c 0) (slotAt_eq c 1)
end InOut

theorem ring_in (c : Dev nD) :
    iprop((∃ d, owns (c : Thread nD τ) scr fullShare d) ∗ (semVal ((c : Thread nD τ), SemLoc.dma 9) 0 ∗ semVal ((c : Thread nD τ), SemLoc.dma 10) 0) ∗ heldWhole c memW (V m c main_arg1))
      ⊢ ringAt c (V m c main_arg1) 0 := by
  unfold ringAt; rw [if_pos rfl]; unfold Ring.At₀
  rw [Ring.bigSep_fin2]
  simp only [Ring.free, cellAt_0, cellAt_1]
  iintro ⟨HS, Hc, HW⟩
  iapply Ring.with_homes₀
  icases Hc with ⟨H0, H1⟩
  ihave HS' := (slots_in (F := F) c) $$ HS
  icases HS' with ⟨⟨%d0, HS0⟩, ⟨%d1, HS1⟩⟩
  ihave HW' := (halves (F := F) c (V m c main_arg1)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
theorem ring_out (c : Dev nD) :
    ringAt c (V m c main_arg1) 256
      ⊢ iprop((∃ d, owns (c : Thread nD τ) scr fullShare d) ∗ (semVal ((c : Thread nD τ), SemLoc.dma 9) 0 ∗ semVal ((c : Thread nD τ), SemLoc.dma 10) 0) ∗ heldWhole c memW (V m c main_arg1)) := by
  unfold ringAt; rw [if_neg (by decide)]
  iintro H
  ihave H' := (Ring.free2_of_AtK_last _ _ _ _ _) $$ H
  simp only [Ring.free, cellAt_0, cellAt_1]
  icases H' with ⟨-, ⟨H0, ⟨%f0, HS0, HW0⟩⟩, ⟨H1, ⟨%f1, HS1, HW1⟩⟩⟩
  isplitl [HS0 HS1]
  · iapply (slots_out (F := F) c); isplitl [HS0]; · iexists f0; iexact HS0
    iexists f1; iexact HS1
  isplitl [H0 H1]
  · isplitl [H0]; · iexact H0
    iexact H1
  · iapply (halves (F := F) c (V m c main_arg1)).2; isplitl [HW0]; · iexact HW0
    iexact HW1

/-! ## The body's operands at point `t` are the ring's -/

section Names
omit [FloatOps F]
set_option synthInstance.maxSize 4096

theorem slot_offs (M : Fin 4 → Nat) (s : Fin 2) (h : M = ![s.val, 0, 0, 0]) (hi) :
    (scr.slice (Rect.unit (s := S2x2048x8x64) M S1x2048x8x64.size hi) (fun _ => rfl)).squeeze S2048x8x64 squeezes_S1x2048x8x64_S2048x8x64 = slot s :=
  congrArg (fun M : Memref sig .tc .vmem S1x2048x8x64 .f32 => M.squeeze S2048x8x64 squeezes_S1x2048x8x64_S2048x8x64) (Memref.slice_unit_congr _ h _ _ (fun _ => rfl) (fun _ => rfl))
theorem cell_offs (M : Fin 1 → Nat) (s : Fin 2) (h : M = ![s.val]) (hi) :
    (cc0_scratch1.slice (Rect.unit (s := S2) M S1.size hi)).squeeze S_ squeezes_S1_S_ = cellArr s :=
  congrArg (fun A : DmaSems sig S1 => A.squeeze S_ squeezes_S1_S_) (SemArray.slice_unit_congr _ h _ _)
theorem block_offs (M : Fin 3 → Nat) (b : Fin 256) (h : M = ![2048 * b.val, 0, 0]) (hi) :
    memT.slice (Rect.unit (s := S524288x8x64) M S2048x8x64.size hi) (fun _ => rfl) = block b :=
  Memref.slice_unit_congr _ h _ _ (fun _ => rfl) (fun _ => rfl)

theorem off2_eq : ∀ t : Fin grid0.N, k0_off2 (grid0.coords t) = ![(Ring.sl 2 (t.val + 1)).val, 0, 0, 0] := by decide +kernel
theorem off1_eq : ∀ t : Fin grid0.N, k0_off1 (grid0.coords t) = ![(Ring.sl 2 (t.val + 1)).val] := by decide +kernel
theorem off3_eq : ∀ t : Fin grid0.N, hasNext (grid0.coords t) → k0_off3 (grid0.coords t) = ![2048 * (Ring.bk 256 (t.val + 1)).val, 0, 0] := by decide +kernel
theorem off5_eq : ∀ t : Fin grid0.N, k0_off5 (grid0.coords t) = ![(Ring.sl 2 t.val).val, 0, 0, 0] := by decide +kernel
theorem off4_eq : ∀ t : Fin grid0.N, k0_off4 (grid0.coords t) = ![(Ring.sl 2 t.val).val] := by decide +kernel
theorem off6_eq : ∀ t : Fin grid0.N, k0_off6 (grid0.coords t) = ![2048 * (Ring.bk 256 t.val).val, 0, 0] := by decide +kernel
theorem first_slot : ∀ t : Fin grid0.N, atFirst (grid0.coords t) → (![0, 0, 0, 0] : Fin 4 → Nat) = ![(Ring.sl 2 t.val).val, 0, 0, 0] := by decide +kernel
theorem first_cell : ∀ t : Fin grid0.N, atFirst (grid0.coords t) → (![0] : Fin 1 → Nat) = ![(Ring.sl 2 t.val).val] := by decide +kernel
theorem first_block : ∀ t : Fin grid0.N, atFirst (grid0.coords t) → (![0, 0, 0] : Fin 3 → Nat) = ![2048 * (Ring.bk 256 t.val).val, 0, 0] := by decide +kernel

@[sl_canon] theorem canon_first_slot (t : Fin grid0.N) (h0 : atFirst (grid0.coords t)) :
    (scr.slice (Rect.unit (s := S2x2048x8x64) ![0, 0, 0, 0] S1x2048x8x64.size inb_S2x2048x8x64_S1x2048x8x64_0_0_0_0) (fun _ => rfl)).squeeze S2048x8x64 squeezes_S1x2048x8x64_S2048x8x64 = slot (Ring.sl 2 t.val) :=
  slot_offs _ _ (first_slot t h0) _
@[sl_canon] theorem canon_first_cell (t : Fin grid0.N) (h0 : atFirst (grid0.coords t)) :
    (cc0_scratch1.slice (Rect.unit (s := S2) ![0] S1.size inb_S2_S1_0)).squeeze S_ squeezes_S1_S_ = cellArr (Ring.sl 2 t.val) :=
  cell_offs _ _ (first_cell t h0) _
@[sl_canon] theorem canon_first_block (t : Fin grid0.N) (h0 : atFirst (grid0.coords t)) :
    memT.slice (Rect.unit (s := S524288x8x64) ![0, 0, 0] S2048x8x64.size inb_S524288x8x64_S2048x8x64_0_0_0) (fun _ => rfl) = block (Ring.bk 256 t.val) :=
  block_offs _ _ (first_block t h0) _
@[sl_canon] theorem canon_next_slot (t : Fin grid0.N) (h1 : hasNext (grid0.coords t)) :
    (scr.slice (Rect.unit (s := S2x2048x8x64) (k0_off2 (grid0.coords t)) S1x2048x8x64.size (k0_off2_inb (grid0.coords t) h1)) (fun _ => rfl)).squeeze S2048x8x64 squeezes_S1x2048x8x64_S2048x8x64 = slot (Ring.sl 2 (t.val + 1)) :=
  slot_offs _ _ (off2_eq t) _
@[sl_canon] theorem canon_next_cell (t : Fin grid0.N) (h1 : hasNext (grid0.coords t)) :
    (cc0_scratch1.slice (Rect.unit (s := S2) (k0_off1 (grid0.coords t)) S1.size (k0_off1_inb (grid0.coords t) h1))).squeeze S_ squeezes_S1_S_ = cellArr (Ring.sl 2 (t.val + 1)) :=
  cell_offs _ _ (off1_eq t) _
@[sl_canon] theorem canon_next_block (t : Fin grid0.N) (h1 : hasNext (grid0.coords t)) :
    memT.slice (Rect.unit (s := S524288x8x64) (k0_off3 (grid0.coords t)) S2048x8x64.size (k0_off3_inb (grid0.coords t) h1)) (fun _ => rfl) = block (Ring.bk 256 (t.val + 1)) :=
  block_offs _ _ (off3_eq t h1) _
@[sl_canon] theorem canon_slot (t : Fin grid0.N) :
    (scr.slice (Rect.unit (s := S2x2048x8x64) (k0_off5 (grid0.coords t)) S1x2048x8x64.size (k0_off5_inb (grid0.coords t))) (fun _ => rfl)).squeeze S2048x8x64 squeezes_S1x2048x8x64_S2048x8x64 = slot (Ring.sl 2 t.val) :=
  slot_offs _ _ (off5_eq t) _
@[sl_canon] theorem canon_cell (t : Fin grid0.N) :
    (cc0_scratch1.slice (Rect.unit (s := S2) (k0_off4 (grid0.coords t)) S1.size (k0_off4_inb (grid0.coords t)))).squeeze S_ squeezes_S1_S_ = cellArr (Ring.sl 2 t.val) :=
  cell_offs _ _ (off4_eq t) _
@[sl_canon] theorem canon_block (t : Fin grid0.N) :
    memT.slice (Rect.unit (s := S524288x8x64) (k0_off6 (grid0.coords t)) S2048x8x64.size (k0_off6_inb (grid0.coords t))) (fun _ => rfl) = block (Ring.bk 256 t.val) :=
  block_offs _ _ (off6_eq t) _
end Names

end Cert.KernelIdeal.Stream

end
-- ==== Proof.Block.lean ====
/- One grid point's computation, written once for its eight batch rows: the query rows of the block, each row's scores
   against its memory, the unnormalised weights and their sum, the pooled memory, and the output block. Then the load
   through a slot of the ring: row `k` of landed block `b` is batch `8 b + k` of the memory. -/
module

public import proofs.«01_k».proof.Proof.Ring
public import Idealize.ShloMosaic.Lib.ValueIdxCore
public import Idealize.ShloMosaic.Lib.VecWindow

@[expose] public section

set_option maxRecDepth 16384

noncomputable section

namespace Cert.KernelIdeal.Stream

open Idealize.ShloMosaic Idealize.ShloMosaic.TcCoe Idealize.ShloMosaic.ValueIdx
open Cert.KernelIdeal.Gen

variable {F : FTy → Type} [FloatOps F]

/-! ## The block's arithmetic -/

theorem row_slices (k : Fin 8) : S8x64.Slices ![k.val, 0] S1x64 := ⟨rfl, by
  have := k.isLt; intro a; fin_cases a <;> simp <;> omega⟩

/-- Row `k` of the block's scaled queries. -/
def queryRow (x0 : Vec F S8x64 .f32) (x1 x2 : Vec F S64x64 .f32) (x3 : Vec F S1x64 .f32) (k : Fin 8) : FVec F S1x64 .f32 :=
  extractStridedSlice S1x64 ![k.val, 0] (k0_pay1 x0 x1 x2 x3) (row_slices k)
/-- A query's scores against a batch's memory, -/
def scores (q : FVec F S1x64 .f32) (M : Vec F S2048x64 .f32) : FVec F S1x2048 .f32 :=
  matmul dot_S1x64_S2048x64_S1x2048_1_1_0_0_n_n none q M (constant S1x2048 .f32 0x00000000#32)
/-- and the memory pooled under the weights of the scores. -/
def pooled (s : FVec F S1x2048 .f32) (M : Vec F S2048x64 .f32) : FVec F S1x64 .f32 :=
  matmul dot_S1x2048_S2048x64_S1x64_1_0_0_1_n_n none (k0_pay12 s) M (constant S1x64 .f32 0x00000000#32)
/-- Eight rows, stacked. -/
def stack64 (r : Fin 8 → FVec F S1x64 .f32) : FVec F S8x64 .f32 :=
  concatenate S8x64 0 [⟨S1x64, r 0⟩, ⟨S1x64, r 1⟩, ⟨S1x64, r 2⟩, ⟨S1x64, r 3⟩, ⟨S1x64, r 4⟩, ⟨S1x64, r 5⟩, ⟨S1x64, r 6⟩, ⟨S1x64, r 7⟩]
    concatenates_S1x64_S1x64_S1x64_S1x64_S1x64_S1x64_S1x64_S1x64_S8x64_d0
def stack1 (r : Fin 8 → FVec F S1x1 .f32) : FVec F S8x1 .f32 :=
  concatenate S8x1 0 [⟨S1x1, r 0⟩, ⟨S1x1, r 1⟩, ⟨S1x1, r 2⟩, ⟨S1x1, r 3⟩, ⟨S1x1, r 4⟩, ⟨S1x1, r 5⟩, ⟨S1x1, r 6⟩, ⟨S1x1, r 7⟩]
    concatenates_S1x1_S1x1_S1x1_S1x1_S1x1_S1x1_S1x1_S1x1_S8x1_d0
/-- The projection of the pooled rows, each divided by its sum of weights, plus the offset. -/
def project (p : FVec F S8x64 .f32) (l : FVec F S8x1 .f32) (x4 : Vec F S64x64 .f32) (x5 : Vec F S1x64 .f32) : FVec F S8x64 .f32 :=
  addf (mulf (matmul dot_S8x64_S64x64_S8x64_1_0_0_1_n_n none p (shapeCast S64x64 x4 shapeCasts_S64x64_S64x64) (constant S8x64 .f32 0x00000000#32))
      (broadcastTo S8x64 (divf (broadcast S8x1 (Scalar.ofBits .f32 0x3F800000#32)) l) broadcasts_S8x1_S8x64))
    (broadcastTo S8x64 (shapeCast S1x64 x5 shapeCasts_S1x64_S1x64) broadcasts_S1x64_S8x64)
/-- The output block, from the staged operands and the eight batches' memories. -/
def blockOut (x0 : Vec F S8x64 .f32) (x1 x2 : Vec F S64x64 .f32) (x3 : Vec F S1x64 .f32) (x4 : Vec F S64x64 .f32) (x5 : Vec F S1x64 .f32)
    (M : Fin 8 → Vec F S2048x64 .f32) : FVec F S8x64 .f32 :=
  project (stack64 fun k => pooled (scores (queryRow x0 x1 x2 x3 k) (M k)) (M k))
    (stack1 fun k => k0_pay13 (scores (queryRow x0 x1 x2 x3 k) (M k))) x4 x5

/-! ## What a load of the slot reads -/

section Loads
omit [FloatOps F]
/-- The batch that row `k` of block `b` holds. -/
abbrev batchOf (b : Fin 256) (k : Fin 8) : Fin 2048 := ⟨8 * b.val + k.val, by have := b.isLt; have := k.isLt; omega⟩
/-- The memory of batch `8 b + k`. -/
def batch (W : S2048x2048x64.Idx → Elt F .f32) (b : Fin 256) (k : Fin 8) : Vec F S2048x64 .f32 := fun y =>
  W (ix3 (n0 := 2048) (n1 := 2048) (n2 := 64) (batchOf b k) (y 0) (y 1))

/-- Row `2048 k + r` of a block of 16384 rows is row `(8 b + k, r)` of the memory: the row-major positions agree. -/
theorem position (hs : S16384x64.numel = S2048x8x64.numel) (hm : S524288x8x64.numel = S2048x2048x64.numel) (b : Fin 256) (k : Fin 8)
    (i : S16384x64.Idx) (y : S2048x64.Idx) (h0 : (i 0).val = 2048 * k.val + (y 0).val) (h1 : (i 1).val = (y 1).val)
    (z : S524288x8x64.Idx) (hz0 : (z 0).val = 2048 * b.val + (Shape.reshapeEquiv hs i 0).val)
    (hz1 : (z 1).val = (Shape.reshapeEquiv hs i 1).val) (hz2 : (z 2).val = (Shape.reshapeEquiv hs i 2).val) :
    Shape.reshapeEquiv hm z = ix3 (n0 := 2048) (n1 := 2048) (n2 := 64) (batchOf b k) (y 0) (y 1) := by
  apply Shape.reshapeEquiv_eq_of_rowMajor
  have e := Shape.rowMajor_reshapeEquiv hs i
  rw [Shape.rowMajor_val_three, Shape.rowMajor_val_two, h0, h1] at e
  rw [Shape.rowMajor_val_three, Shape.rowMajor_val_three, hz0, hz1, hz2]
  change (_ * 8 + _) * 64 + _ = _ * 64 + _ at e
  change (_ * 2048 + _) * 64 + _ = (_ * 8 + _) * 64 + _
  change ((8 * b.val + k.val) * 2048 + (y 0).val) * 64 + (y 1).val = _
  omega

/-- A load through a memref reshaped reads the memref at the index of the same row-major position. -/
theorem load_reshaped {sg : RefSig} {κ : Kind} {sp : Space} {s₀ s₁ : Shape} {e : EltTy} {Val : EltTy → Type} (M : Memref sg κ sp s₀ e) (hr hc hv)
    (r : LoadRect s₁) (f : M.view.ty.Contents Val) (y : r.shape.Idx) :
    (M.reshape s₁ hr hc hv).view.readAt Val r f y = M.view.read Val f (Shape.reshapeEquiv hr (r.idx y)) := rfl

theorem load_slot (c : Dev nD) (s : Fin 2) (f : Cont (F := F) c (slot s)) (x : S2048x8x64.Idx → Elt F .f32) (hr hc hv)
    (r : LoadRect S16384x64) (y : r.shape.Idx) :
    ((slot s).reshape S16384x64 hr hc hv).view.readAt (Elt F) r ((slot s).view.writes (Elt F) f [⟨Rect.whole S2048x8x64, x⟩]) y
      = x (Shape.reshapeEquiv hr (r.idx y)) :=
  (load_reshaped (slot s) hr hc hv r _ y).trans (congrFun (View.read_writes_whole (slot s).view f x) _)

theorem block_read (c : Dev nD) (W : Cont (F := F) c memW) (b : Fin 256) (z : S2048x8x64.Idx) :
    (block b).view.read (Elt F) W z = W (Shape.reshapeEquiv reshapes_S2048x2048x64_S524288x8x64.1 ((Rect.unit (s := S524288x8x64) ![2048 * b.val, 0, 0] S2048x8x64.size (block_inb b)).emb z)) := by
  rfl

theorem load_batch (c : Dev nD) (W : Cont (F := F) c memW) (s : Fin 2) (b : Fin 256) (k : Fin 8) (f : Cont (F := F) c (slot s)) (hr hc hv)
    (off : Fin 2 → ℕ) (hoff : off = ![2048 * k.val, 0]) (inb) :
    ((slot s).reshape S16384x64 hr hc hv).view.readAt (Elt F) (Rect.unit (s := S16384x64) off S2048x64.size inb).toLoadRect (landed c W s b f)
      = batch W b k := by
  subst hoff
  funext y
  refine (load_slot c s f _ hr hc hv _ y).trans ?_
  refine (block_read c W b _).trans (congrArg W ?_)
  refine position hr _ b k ((Rect.unit (s := S16384x64) ![2048 * k.val, 0] S2048x64.size inb).toLoadRect.idx y) y ?_ ?_ _ ?_ ?_ ?_
  · show 2048 * k.val + 1 * (y 0).val = _; omega
  · show 0 + 1 * (y 1).val = _; omega
  · show 2048 * b.val + 1 * _ = _; rw [one_mul]
  · show 0 + 1 * _ = _; rw [one_mul, zero_add]
  · show 0 + 1 * _ = _; rw [one_mul, zero_add]
/-- A load of a staged operand whole reads its contents. -/
theorem load_staged {s : Shape} {e : EltTy} (A : Memref sig .tc .vmem s e) (hA : A.IsWhole) (x : Vec F s e) {off : Fin s.rank → ℕ} (inb) :
    A.view.readAt (Elt F) (Rect.unit (s := s) off s.size inb).toLoadRect (hA.unread x) = x :=
  (View.readAt_full A.view _ inb).trans (hA.read_unread x)
theorem row_load_inb (k : Fin 8) : ∀ a, (![2048 * k.val, 0] : Fin 2 → ℕ) a + S2048x64.size a ≤ S16384x64.size a := by
  have := k.isLt; intro a; fin_cases a <;> simp <;> omega
end Loads

/-- The output block from what the body loads: the staged operands whole, and the slot's rows of each batch. -/
theorem blockOut_loads (c : Dev nD)
    (arg1 : Memref sig .tc .vmem S8x64 .f32) (harg1 : arg1.IsWhole) (arg3 : Memref sig .tc .vmem S64x64 .f32) (harg3 : arg3.IsWhole)
    (arg4 : Memref sig .tc .vmem S64x64 .f32) (harg4 : arg4.IsWhole) (arg5 : Memref sig .tc .vmem S1x64 .f32) (harg5 : arg5.IsWhole)
    (arg6 : Memref sig .tc .vmem S64x64 .f32) (harg6 : arg6.IsWhole) (arg7 : Memref sig .tc .vmem S1x64 .f32) (harg7 : arg7.IsWhole)
    (x0 : Vec F S8x64 .f32) (x1 : Vec F S64x64 .f32) (x2 : Vec F S64x64 .f32) (x3 : Vec F S1x64 .f32) (x4 : Vec F S64x64 .f32) (x5 : Vec F S1x64 .f32)
    (W : Cont (F := F) c memW) (s : Fin 2) (b : Fin 256) (f : Cont (F := F) c (slot s)) (hr hc hv) :
    blockOut (arg1.view.readAt (Elt F) (Rect.unit (s := S8x64) ![0, 0] S8x64.size inb_S8x64_S8x64_0_0).toLoadRect (harg1.unread x0))
        (arg3.view.readAt (Elt F) (Rect.unit (s := S64x64) ![0, 0] S64x64.size inb_S64x64_S64x64_0_0).toLoadRect (harg3.unread x1))
        (arg4.view.readAt (Elt F) (Rect.unit (s := S64x64) ![0, 0] S64x64.size inb_S64x64_S64x64_0_0).toLoadRect (harg4.unread x2))
        (arg5.view.readAt (Elt F) (Rect.unit (s := S1x64) ![0, 0] S1x64.size inb_S1x64_S1x64_0_0).toLoadRect (harg5.unread x3))
        (arg6.view.readAt (Elt F) (Rect.unit (s := S64x64) ![0, 0] S64x64.size inb_S64x64_S64x64_0_0).toLoadRect (harg6.unread x4))
        (arg7.view.readAt (Elt F) (Rect.unit (s := S1x64) ![0, 0] S1x64.size inb_S1x64_S1x64_0_0).toLoadRect (harg7.unread x5))
        (fun k => ((slot s).reshape S16384x64 hr hc hv).view.readAt (Elt F)
          (Rect.unit (s := S16384x64) ![2048 * k.val, 0] S2048x64.size (row_load_inb k)).toLoadRect (landed c W s b f))
      = blockOut x0 x1 x2 x3 x4 x5 (batch W b) := by
  rw [show (fun k : Fin 8 => _) = batch W b from funext fun k => load_batch c W s b k f hr hc hv _ rfl (row_load_inb k)]
  rw [load_staged arg1 harg1, load_staged arg3 harg3, load_staged arg4 harg4, load_staged arg5 harg5, load_staged arg6 harg6, load_staged arg7 harg7]

end Cert.KernelIdeal.Stream

end
-- ==== Proof.Body.lean ====
module

public import proofs.«01_k».proof.Proof.Block

@[expose] public section

set_option maxRecDepth 16384

noncomputable section

namespace Cert.KernelIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

variable (c : Dev nD) (t : Fin cfg0.N)
  (arg1 : Memref sig .tc .vmem S8x64 .f32) (harg1 : arg1.IsWhole) (arg3 : Memref sig .tc .vmem S64x64 .f32) (harg3 : arg3.IsWhole)
  (arg4 : Memref sig .tc .vmem S64x64 .f32) (harg4 : arg4.IsWhole) (arg5 : Memref sig .tc .vmem S1x64 .f32) (harg5 : arg5.IsWhole)
  (arg6 : Memref sig .tc .vmem S64x64 .f32) (harg6 : arg6.IsWhole) (arg7 : Memref sig .tc .vmem S1x64 .f32) (harg7 : arg7.IsWhole)
  (arg8 : Memref sig .tc .vmem S8x64 .f32) (harg8 : arg8.IsWhole)
  (x0 : Vec F S8x64 .f32) (x1 : Vec F S64x64 .f32) (x2 : Vec F S64x64 .f32) (x3 : Vec F S1x64 .f32) (x4 : Vec F S64x64 .f32) (x5 : Vec F S1x64 .f32)
  (W : Cont (F := F) c memW)

/-- The staged operands, each at its contents. -/
def staged : sProp 𝕄 :=
  iprop(owns (c : Thread nD τ) arg1 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5)

/-- The body on these memrefs, at point `t`. -/
abbrev body : Prog (TpuEff nD τ sig (Elt F) Λ₀ .tc) PUnit :=
  cc0_read_gate_fused (grid0.coords t) arg1 harg1 (Memref.whole main_arg1) (Memref.isWhole_whole _) arg3 harg3 arg4 harg4 arg5 harg5 arg6 harg6 arg7 harg7 arg8 harg8 scr (Memref.isWhole_whole _) cc0_scratch1

/-- The output block at point `t`. -/
abbrev result : Vec F S8x64 .f32 := blockOut x0 x1 x2 x3 x4 x5 (batch W (Ring.bk 256 t.val))

/-- The staged operands' buffers, each held at the raw contents its operand reads from. -/
def held : sProp 𝕄 :=
  iprop((arg1.view.loc (c : Thread nD τ) ↦[arg1.view.set]{fullShare} harg1.unread x0) ∗ (arg3.view.loc (c : Thread nD τ) ↦[arg3.view.set]{fullShare} harg3.unread x1)
    ∗ (arg4.view.loc (c : Thread nD τ) ↦[arg4.view.set]{fullShare} harg4.unread x2) ∗ (arg5.view.loc (c : Thread nD τ) ↦[arg5.view.set]{fullShare} harg5.unread x3)
    ∗ (arg6.view.loc (c : Thread nD τ) ↦[arg6.view.set]{fullShare} harg6.unread x4) ∗ (arg7.view.loc (c : Thread nD τ) ↦[arg7.view.set]{fullShare} harg7.unread x5))
theorem owns_held {s : Shape} (A : Memref sig .tc .vmem s .f32) (hA : A.IsWhole) (x : Vec F s .f32) :
    owns (c : Thread nD τ) A fullShare x ⊣⊢ (A.view.loc (c : Thread nD τ) ↦[A.view.set]{fullShare} hA.unread x : sProp 𝕄) := by
  unfold owns
  refine ⟨?_, ?_⟩
  · iintro ⟨%f, %hf, H⟩
    obtain rfl := hA.eq_unread hf
    iexact H
  · iintro H
    iexists _; isplitr; · ipureintro; exact hA.read_unread _
    iexact H
theorem staged_held :
    staged c arg1 arg3 arg4 arg5 arg6 arg7 x0 x1 x2 x3 x4 x5 ⊣⊢ held c arg1 harg1 arg3 harg3 arg4 harg4 arg5 harg5 arg6 harg6 arg7 harg7 x0 x1 x2 x3 x4 x5 := by
  unfold staged held
  exact sep_congr (owns_held c arg1 harg1 x0) (sep_congr (owns_held c arg3 harg3 x1) (sep_congr (owns_held c arg4 harg4 x2)
    (sep_congr (owns_held c arg5 harg5 x3) (sep_congr (owns_held c arg6 harg6 x4) (owns_held c arg7 harg7 x5)))))

set_option maxHeartbeats 1000000 in
/-- The first point starts block 0 and block 1, and waits for block 0. -/
theorem runFirst (hc0 : atFirst (grid0.coords t)) (hc1 : hasNext (grid0.coords t)) (Ws : Waits sig Unit) (K : PUnit → sProp 𝕄) :
    iprop(staged c arg1 arg3 arg4 arg5 arg6 arg7 x0 x1 x2 x3 x4 x5 ∗ (∃ d, owns (c : Thread nD τ) arg8 fullShare d)
        ∗ Ring.free (cellAt c) (slotF c W) (Ring.sl 2 t.val)
        ∗ Ring.free (cellAt c) (slotF c W) (Ring.sl 2 (t.val + 1)) ∗ owes (c : Thread nD τ) 0 Ws
        ∗ (iprop(staged c arg1 arg3 arg4 arg5 arg6 arg7 x0 x1 x2 x3 x4 x5
            ∗ owns (c : Thread nD τ) arg8 fullShare (result c t x0 x1 x2 x3 x4 x5 W)
            ∗ Ring.inflight (flightF c W) (Ring.sl 2 (t.val + 1)) (Ring.bk 256 (t.val + 1))
            ∗ Ring.kept (cellAt c) (slotF c W) (landed c W) (Ring.sl 2 t.val) (Ring.bk 256 t.val)
            ∗ (∃ W', owes (c : Thread nD τ) 0 W')) -∗ K ⟨⟩))
      ⊢ wp frame (wpE (defs₀ (F := F)) Variants.none c none) Set.univ
          (body t arg1 harg1 arg3 harg3 arg4 harg4 arg5 harg5 arg6 harg6 arg7 harg7 arg8 harg8) K := by
  haveI : Fact (atFirst (grid0.coords t)) := ⟨hc0⟩
  haveI : Fact (hasNext (grid0.coords t)) := ⟨hc1⟩
  simp only [body, cc0_read_gate_fused_eq_skeleton]; unfold cc0_read_gate_fused_skel
  simp only [k0_part1_eq_skeleton, k0_part2_eq_skeleton, k0_part3_eq_skeleton, k0_part4_eq_skeleton, k0_part5_eq_skeleton, k0_part6_eq_skeleton]
  have hslot0 := canon_first_slot t hc0
  have hcell0 := canon_first_cell t hc0
  have hblock0 := canon_first_block t hc0
  have hslot := canon_slot t
  have hcell := canon_cell t
  have hblock := canon_block t
  unfold owns Ring.free Ring.inflight Ring.kept
  iintro ⟨HX, ⟨%d6, ⟨%f6, -, H6⟩⟩, ⟨Hc₀, ⟨%f₀, Hs₀, Hw₀⟩⟩, ⟨Hc, ⟨%fk, Hs, Hw⟩⟩, HW, Hk⟩
  ihave Hsp₀ := (lend c W (Ring.sl 2 t.val) (Ring.bk 256 t.val)).1 $$ Hw₀
  icases Hsp₀ with ⟨Hh₀, Hr₀⟩
  ihave Hsp := (lend c W (Ring.sl 2 (t.val + 1)) (Ring.bk 256 (t.val + 1))).1 $$ Hw
  icases Hsp with ⟨Hh, Hr⟩
  ihave HX' := (staged_held c arg1 harg1 arg3 harg3 arg4 harg4 arg5 harg5 arg6 harg6 arg7 harg7 x0 x1 x2 x3 x4 x5).1 $$ HX
  unfold held
  icases HX' with ⟨H0, H1, H2, H3, H4, H5⟩
  sl_exec (disch := first | sl_exact hc0 | sl_exact hc1)
  sl_step
  iapply Hk
  isplitl [H0 H1 H2 H3 H4 H5]
  · iapply (staged_held c arg1 harg1 arg3 harg3 arg4 harg4 arg5 harg5 arg6 harg6 arg7 harg7 x0 x1 x2 x3 x4 x5).2
    unfold held
    isplitl [H0]; · iexact H0
    isplitl [H1]; · iexact H1
    isplitl [H2]; · iexact H2
    isplitl [H3]; · iexact H3
    isplitl [H4]; · iexact H4
    iexact H5
  isplitl [H6]
  · iexists _; isplitr
    rotate_left; · iexact H6
    ipureintro
    exact (View.read_writes_full _ _ _ _ _).trans (blockOut_loads c arg1 harg1 arg3 harg3 arg4 harg4 arg5 harg5 arg6 harg6 arg7 harg7 x0 x1 x2 x3 x4 x5 W (Ring.sl 2 t.val) (Ring.bk 256 t.val) _ _ _ _)
  isplitl [Hc Hr]
  · iexists _; isplitl [Hc]; · iexact Hc
    iexact Hr
  isplitl [Hc₀ Hs₀ Hh₀ Hr₀]
  · isplitl [Hc₀]; · iexact Hc₀
    iexists _; isplitl [Hs₀]; · iexact Hs₀
    iapply (lend c W (Ring.sl 2 t.val) (Ring.bk 256 t.val)).2; isplitl [Hh₀]; · iexact Hh₀
    iexact Hr₀
  iexists _; iexact HW

set_option maxHeartbeats 1000000 in
/-- A point between starts the next block and waits for its own. -/
theorem runMid (hc0 : ¬atFirst (grid0.coords t)) (hc1 : hasNext (grid0.coords t)) (Ws : Waits sig Unit) (K : PUnit → sProp 𝕄) :
    iprop(staged c arg1 arg3 arg4 arg5 arg6 arg7 x0 x1 x2 x3 x4 x5 ∗ (∃ d, owns (c : Thread nD τ) arg8 fullShare d)
        ∗ Ring.inflight (flightF c W) (Ring.sl 2 t.val) (Ring.bk 256 t.val)
        ∗ Ring.kept (cellAt c) (slotF c W) (landed c W) (Ring.sl 2 (t.val + 1)) (Ring.bk 256 (t.val - 1)) ∗ owes (c : Thread nD τ) 0 Ws
        ∗ (iprop(staged c arg1 arg3 arg4 arg5 arg6 arg7 x0 x1 x2 x3 x4 x5
            ∗ owns (c : Thread nD τ) arg8 fullShare (result c t x0 x1 x2 x3 x4 x5 W)
            ∗ Ring.inflight (flightF c W) (Ring.sl 2 (t.val + 1)) (Ring.bk 256 (t.val + 1))
            ∗ Ring.kept (cellAt c) (slotF c W) (landed c W) (Ring.sl 2 t.val) (Ring.bk 256 t.val)
            ∗ (∃ W', owes (c : Thread nD τ) 0 W')) -∗ K ⟨⟩))
      ⊢ wp frame (wpE (defs₀ (F := F)) Variants.none c none) Set.univ
          (body t arg1 harg1 arg3 harg3 arg4 harg4 arg5 harg5 arg6 harg6 arg7 harg7 arg8 harg8) K := by
  haveI : Fact (¬atFirst (grid0.coords t)) := ⟨hc0⟩
  haveI : Fact (hasNext (grid0.coords t)) := ⟨hc1⟩
  simp only [body, cc0_read_gate_fused_eq_skeleton]; unfold cc0_read_gate_fused_skel
  simp only [k0_part1_eq_skeleton, k0_part2_eq_skeleton, k0_part3_eq_skeleton, k0_part4_eq_skeleton, k0_part5_eq_skeleton, k0_part6_eq_skeleton]
  have hslot := canon_slot t
  have hcell := canon_cell t
  have hblock := canon_block t
  unfold owns Ring.inflight Ring.kept
  iintro ⟨HX, ⟨%d6, ⟨%f6, -, H6⟩⟩, ⟨%fs, Hf, Hrf⟩, ⟨Hc, ⟨%fk, Hs, Hw⟩⟩, HW, Hk⟩
  ihave Hsp := (lend c W (Ring.sl 2 (t.val + 1)) (Ring.bk 256 (t.val + 1))).1 $$ Hw
  icases Hsp with ⟨Hh, Hr⟩
  ihave HX' := (staged_held c arg1 harg1 arg3 harg3 arg4 harg4 arg5 harg5 arg6 harg6 arg7 harg7 x0 x1 x2 x3 x4 x5).1 $$ HX
  unfold held
  icases HX' with ⟨H0, H1, H2, H3, H4, H5⟩
  sl_exec (disch := first | sl_exact hc0 | sl_exact hc1)
  sl_step
  iapply Hk
  isplitl [H0 H1 H2 H3 H4 H5]
  · iapply (staged_held c arg1 harg1 arg3 harg3 arg4 harg4 arg5 harg5 arg6 harg6 arg7 harg7 x0 x1 x2 x3 x4 x5).2
    unfold held
    isplitl [H0]; · iexact H0
    isplitl [H1]; · iexact H1
    isplitl [H2]; · iexact H2
    isplitl [H3]; · iexact H3
    isplitl [H4]; · iexact H4
    iexact H5
  isplitl [H6]
  · iexists _; isplitr
    rotate_left; · iexact H6
    ipureintro
    exact (View.read_writes_full _ _ _ _ _).trans (blockOut_loads c arg1 harg1 arg3 harg3 arg4 harg4 arg5 harg5 arg6 harg6 arg7 harg7 x0 x1 x2 x3 x4 x5 W (Ring.sl 2 t.val) (Ring.bk 256 t.val) _ _ _ _)
  isplitl [Hc Hr]
  · iexists _; isplitl [Hc]; · iexact Hc
    iexact Hr
  isplitl [Hf Hf_dst Hf_src Hrf]
  · isplitl [Hf]; · iexact Hf
    iexists _; isplitl [Hf_dst]; · iexact Hf_dst
    iapply (lend c W (Ring.sl 2 t.val) (Ring.bk 256 t.val)).2; isplitl [Hf_src]; · iexact Hf_src
    iexact Hrf
  iexists _; iexact HW

set_option maxHeartbeats 1000000 in
/-- The last point only waits for its own block. -/
theorem runLast (hc0 : ¬atFirst (grid0.coords t)) (hc1 : ¬hasNext (grid0.coords t)) (Ws : Waits sig Unit) (K : PUnit → sProp 𝕄) :
    iprop(staged c arg1 arg3 arg4 arg5 arg6 arg7 x0 x1 x2 x3 x4 x5 ∗ (∃ d, owns (c : Thread nD τ) arg8 fullShare d)
        ∗ Ring.inflight (flightF c W) (Ring.sl 2 t.val) (Ring.bk 256 t.val) ∗ owes (c : Thread nD τ) 0 Ws
        ∗ (iprop(staged c arg1 arg3 arg4 arg5 arg6 arg7 x0 x1 x2 x3 x4 x5
            ∗ owns (c : Thread nD τ) arg8 fullShare (result c t x0 x1 x2 x3 x4 x5 W)
            ∗ Ring.kept (cellAt c) (slotF c W) (landed c W) (Ring.sl 2 t.val) (Ring.bk 256 t.val)
            ∗ (∃ W', owes (c : Thread nD τ) 0 W')) -∗ K ⟨⟩))
      ⊢ wp frame (wpE (defs₀ (F := F)) Variants.none c none) Set.univ
          (body t arg1 harg1 arg3 harg3 arg4 harg4 arg5 harg5 arg6 harg6 arg7 harg7 arg8 harg8) K := by
  haveI : Fact (¬atFirst (grid0.coords t)) := ⟨hc0⟩
  haveI : Fact (¬hasNext (grid0.coords t)) := ⟨hc1⟩
  simp only [body, cc0_read_gate_fused_eq_skeleton]; unfold cc0_read_gate_fused_skel
  simp only [k0_part1_eq_skeleton, k0_part2_eq_skeleton, k0_part3_eq_skeleton, k0_part4_eq_skeleton, k0_part5_eq_skeleton, k0_part6_eq_skeleton]
  have hslot := canon_slot t
  have hcell := canon_cell t
  have hblock := canon_block t
  unfold owns Ring.inflight Ring.kept
  iintro ⟨HX, ⟨%d6, ⟨%f6, -, H6⟩⟩, ⟨%fs, Hf, Hrf⟩, HW, Hk⟩
  ihave HX' := (staged_held c arg1 harg1 arg3 harg3 arg4 harg4 arg5 harg5 arg6 harg6 arg7 harg7 x0 x1 x2 x3 x4 x5).1 $$ HX
  unfold held
  icases HX' with ⟨H0, H1, H2, H3, H4, H5⟩
  sl_exec (disch := first | sl_exact hc0 | sl_exact hc1)
  sl_step
  iapply Hk
  isplitl [H0 H1 H2 H3 H4 H5]
  · iapply (staged_held c arg1 harg1 arg3 harg3 arg4 harg4 arg5 harg5 arg6 harg6 arg7 harg7 x0 x1 x2 x3 x4 x5).2
    unfold held
    isplitl [H0]; · iexact H0
    isplitl [H1]; · iexact H1
    isplitl [H2]; · iexact H2
    isplitl [H3]; · iexact H3
    isplitl [H4]; · iexact H4
    iexact H5
  isplitl [H6]
  · iexists _; isplitr
    rotate_left; · iexact H6
    ipureintro
    exact (View.read_writes_full _ _ _ _ _).trans (blockOut_loads c arg1 harg1 arg3 harg3 arg4 harg4 arg5 harg5 arg6 harg6 arg7 harg7 x0 x1 x2 x3 x4 x5 W (Ring.sl 2 t.val) (Ring.bk 256 t.val) _ _ _ _)
  isplitl [Hf Hf_dst Hf_src Hrf]
  · isplitl [Hf]; · iexact Hf
    iexists _; isplitl [Hf_dst]; · iexact Hf_dst
    iapply (lend c W (Ring.sl 2 t.val) (Ring.bk 256 t.val)).2; isplitl [Hf_src]; · iexact Hf_src
    iexact Hrf
  iexists _; iexact HW

end Cert.KernelIdeal.Stream

end
-- ==== Proof.Launch.lean ====
/- The launch. The proof data of the one pipeline: after the body at point `t` an input's buffer holds its block and the
   output's the block's result, and between points the invariant is the ring. The body meets it at the first point, at
   a point between and at the last (Body.lean's three runs); what the launch hands the region is the ring before point
   0. So every execution ends with the arrays as the data says, the arguments unchanged, and every counter at zero. -/
module

public import proofs.«01_k».proof.Proof.Body
public import proofs.«01_k».proof.Proof.Gen.KernelIdeal.Points

@[expose] public section

set_option maxRecDepth 16384

noncomputable section

namespace Cert.KernelIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The proof data -/

/-- The output block that point `t` computes. -/
abbrev outAt (c : Dev nD) (t : Fin cfg0.N) : Vec F S8x64 .f32 :=
  result c t (iblk m c 0 t) (iblk m c 1 t) (iblk m c 2 t) (iblk m c 3 t) (iblk m c 4 t) (iblk m c 5 t) (V m c main_arg1)

/-- The generator register, and the ring before point `k`. -/
def between (c : Dev nD) (k : ℕ) : sProp 𝕄 := iprop((∃ r, prngReg c r) ∗ ringAt c (V m c main_arg1) k)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := between m c t.val
  q _ := fullShare
  owed _ := 0

theorem A_eq (c : Dev nD) (w : Fin cfg0.W) : (dats m 0 c).A w = V m c (Pipeline.arrRef spec0 w) := by
  dsimp only [dats]
theorem between_castSucc (c : Dev nD) (t : Fin cfg0.N) : (dats m 0 c).Φ t.castSucc = between m c t.val := by
  dsimp only [dats]; simp only [Fin.coe_castSucc]
theorem between_succ (c : Dev nD) (t : Fin cfg0.N) : (dats m 0 c).Φ t.succ = between m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAt m c t := by dsimp only [dats]

/-- Before the body an input window's buffer holds its block, fetched at this point or not: the body leaves it in place. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]) t d).trans
    (by unfold Dat.fetched Dat.blockOf iblk; rw [A_eq]; try rfl)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The staged inputs at their blocks. -/
abbrev stagedAt (c : Dev nD) (t : Fin cfg0.N) : sProp 𝕄 :=
  staged c (st0_0 t) (st0_1 t) (st0_2 t) (st0_3 t) (st0_4 t) (st0_5 t) (iblk m c 0 t) (iblk m c 1 t) (iblk m c 2 t) (iblk m c 3 t) (iblk m c 4 t) (iblk m c 5 t)
/-- The precondition with the windows gathered, -/
theorem bodyPre_entails (c : Dev nD) (t : Fin cfg0.N) :
    bodyPre m c t ⊢ iprop(between m c t.val ∗ (∃ W, owes (c : Thread nD τ) 0 W) ∗ stagedAt m c t ∗ (∃ d, owns (c : Thread nD τ) (st0_6 t) fullShare d)) := by
  unfold bodyPre
  simp only [before_0, before_1, before_2, before_3, before_4, before_5]
  rw [between_castSucc m c t]
  unfold Dat.owesAt Pipeline.owesWithin stagedAt staged
  rw [show (dats m 0 c).owed t.castSucc = 0 from rfl]
  iintro ⟨HΦ, ⟨%W, -, HW⟩, ⟨%d0, H0⟩, ⟨%d1, H1⟩, ⟨%d2, H2⟩, ⟨%d3, H3⟩, ⟨%d4, H4⟩, ⟨%d5, H5⟩, ⟨%d6, H6⟩⟩
  isplitl [HΦ]; · iexact HΦ
  isplitl [HW]; · iexists _; iexact HW
  isplitl [H0 H1 H2 H3 H4 H5]
  · isplitl [H0]; · iexact H0
    isplitl [H1]; · iexact H1
    isplitl [H2]; · iexact H2
    isplitl [H3]; · iexact H3
    isplitl [H4]; · iexact H4
    iexact H5
  iexists _; iexact H6
/-- and the postcondition from the windows gathered. -/
theorem entails_bodyPost (c : Dev nD) (t : Fin cfg0.N) :
    iprop(between m c (t.val + 1) ∗ (∃ W, owes (c : Thread nD τ) 0 W) ∗ stagedAt m c t ∗ owns (c : Thread nD τ) (st0_6 t) fullShare (outAt m c t)) ⊢ bodyPost m c t := by
  unfold bodyPost
  rw [after_0, after_1, after_2, after_3, after_4, after_5, after_6, between_succ m c t]
  unfold Dat.owesAt Pipeline.owesWithin stagedAt staged
  rw [show (dats m 0 c).owed t.succ = 0 from rfl]
  iintro ⟨HΦ, ⟨%W, HW⟩, ⟨H0, H1, H2, H3, H4, H5⟩, H6⟩
  isplitl [HΦ]; · iexact HΦ
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  iexact H6

set_option maxHeartbeats 2400000 in
/-- The body at any point: the ring before the point is the pieces that point's run takes, and what the run hands back is
    the ring before the next. -/
theorem sound_body (c : Dev nD) (t : Fin cfg0.N) :
    bodyPre m c t ⊢ wp frame (wpE (defs₀ (F := F)) Variants.none c none) Set.univ (bodyAt0 t) (fun _ => bodyPost m c t) := by
  refine (bodyPre_entails m c t).trans ?_
  unfold bodyAt0
  have hN : t.val < 256 := lt_of_lt_of_eq t.isLt (show cfg0.N = 256 from N_0)
  unfold between ringAt
  by_cases h0 : t.val = 0
  · have hc0 := (atFirst_iff t).mpr h0
    have hc1 := (hasNext_iff t).mpr (by omega)
    rw [if_pos h0]
    rw [Ring.At₀_eq2' _ _ _ t.val h0 (by decide : 2 ≤ 256)]
    iintro ⟨⟨Hg, ⟨-, Hfr0, Hfr1⟩⟩, ⟨%W, HW⟩, HX, H6⟩
    iapply (runFirst c t _ _ _ _ _ _ _ _ _ _ _ _ _ _ (iblk m c 0 t) (iblk m c 1 t) (iblk m c 2 t) (iblk m c 3 t) (iblk m c 4 t) (iblk m c 5 t) (V m c main_arg1) hc0 hc1 W _)
    isplitl [HX]; · iexact HX
    isplitl [H6]; · iexact H6
    isplitl [Hfr0]; · iexact Hfr0
    isplitl [Hfr1]; · iexact Hfr1
    isplitl [HW]; · iexact HW
    iintro ⟨HX, H6, Hfl, Hkp, HW⟩
    iapply (entails_bodyPost m c t)
    unfold between ringAt
    rw [if_neg (show ¬t.val + 1 = 0 by omega)]
    isplitl [Hg Hfl Hkp]
    · isplitl [Hg]; · iexact Hg
      rw [Ring.AtK2_one' _ _ _ _ _ t.val h0 (by decide : 1 < 256)]
      iapply Ring.with_homes₀
      isplitl [Hfl]; · iexact Hfl
      iexact Hkp
    isplitl [HW]; · iexact HW
    isplitl [HX]; · iexact HX
    iexact H6
  · have hc0 : ¬atFirst (grid0.coords t) := fun h => h0 ((atFirst_iff t).mp h)
    rw [if_neg h0]
    by_cases h1 : t.val < 255
    · have hK : 1 ≤ t.val := by omega
      have hB : t.val + 1 < 256 := by omega
      rw [Ring.AtK2_here _ _ _ _ _ t.val hK hB]
      iintro ⟨⟨Hg, ⟨-, Hfl0, Hkp0⟩⟩, ⟨%W, HW⟩, HX, H6⟩
      iapply (runMid c t _ _ _ _ _ _ _ _ _ _ _ _ _ _ (iblk m c 0 t) (iblk m c 1 t) (iblk m c 2 t) (iblk m c 3 t) (iblk m c 4 t) (iblk m c 5 t) (V m c main_arg1) hc0 ((hasNext_iff t).mpr h1) W _)
      isplitl [HX]; · iexact HX
      isplitl [H6]; · iexact H6
      isplitl [Hfl0]; · iexact Hfl0
      isplitl [Hkp0]; · iexact Hkp0
      isplitl [HW]; · iexact HW
      iintro ⟨HX, H6, Hfl, Hkp, HW⟩
      iapply (entails_bodyPost m c t)
      unfold between ringAt
      rw [if_neg (show ¬t.val + 1 = 0 by omega)]
      isplitl [Hg Hfl Hkp]
      · isplitl [Hg]; · iexact Hg
        rw [Ring.AtK2_next _ _ _ _ _ t.val hK hB]
        iapply (Ring.with_homes (Idealize.SL.BI.Entails.refl _))
        isplitl [Hfl]; · iexact Hfl
        iexact Hkp
      isplitl [HW]; · iexact HW
      isplitl [HX]; · iexact HX
      iexact H6
    · have hK : 1 ≤ t.val := by omega
      have hB : t.val + 1 = 256 := by omega
      rw [Ring.AtK2_here_last _ _ _ _ _ t.val hK hB]
      iintro ⟨⟨Hg, ⟨-, Hfl0, Hkeep⟩⟩, ⟨%W, HW⟩, HX, H6⟩
      iapply (runLast c t _ _ _ _ _ _ _ _ _ _ _ _ _ _ (iblk m c 0 t) (iblk m c 1 t) (iblk m c 2 t) (iblk m c 3 t) (iblk m c 4 t) (iblk m c 5 t) (V m c main_arg1) hc0 (fun h => h1 ((hasNext_iff t).mp h)) W _)
      isplitl [HX]; · iexact HX
      isplitl [H6]; · iexact H6
      isplitl [Hfl0]; · iexact Hfl0
      isplitl [HW]; · iexact HW
      iintro ⟨HX, H6, Hkp, HW⟩
      iapply (entails_bodyPost m c t)
      unfold between ringAt
      rw [if_neg (show ¬t.val + 1 = 0 by omega)]
      isplitl [Hg Hkeep Hkp]
      · isplitl [Hg]; · iexact Hg
        rw [Ring.AtK2_next_last _ _ _ _ _ t.val hK hB]
        iapply (Ring.with_homes (Idealize.SL.BI.Entails.refl _))
        isplitl [Hkeep]; · iexact Hkeep
        iexact Hkp
      isplitl [HW]; · iexact HW
      isplitl [HX]; · iexact HX
      iexact H6

theorem defs₀_row (t : Fin cfg0.N) :
    defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## Into and out of the region -/

theorem hin (c : Dev nD) : Pipeline.ΦD ownCells spec0 moved (V m) c ⊢ (dats m 0 c).Φ 0 := by
  rw [scratch_eq, show (dats m 0 c).Φ 0 = between m c 0 from rfl]
  unfold between
  iintro ⟨HS, Hg, HC, HM⟩
  isplitl [Hg]; · iexact Hg
  iapply (ring_in (F := F) m c)
  isplitl [HS]; · iexact HS
  isplitl [HC]; · iexact HC
  iexact HM
theorem hout (c : Dev nD) : (dats m 0 c).Φ (Fin.last cfg0.N) ⊢ Pipeline.ΦD ownCells spec0 moved (V m) c := by
  rw [scratch_eq, show (dats m 0 c).Φ (Fin.last cfg0.N) = between m c grid0.N from rfl]
  unfold between
  rw [show grid0.N = 256 by rw [N_0]]
  iintro ⟨Hg, HR⟩
  ihave HX := (ring_out (F := F) m c) $$ HR
  icases HX with ⟨HS, HC, HM⟩
  isplitl [HS]; · iexact HS
  isplitl [Hg]; · iexact Hg
  isplitl [HC]; · iexact HC
  iexact HM

set_option maxHeartbeats 800000 in
/-- The host operations before the region, run. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-! ## The run and the frame -/

set_option backward.isDefEq.respectTransparency.types false in
theorem run_main : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 ownCells defs₀ Variants.none ownCells_facts moved moved_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The arguments, in a state the launch may leave, are what they were. -/
theorem args_kept {r : PUnit × MemSt nD τ sig (Elt F)} (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  have rest (b) (hs hr) := (h c).2 b (Pipeline.mem_restRefs_of b hs hr)
  ⟨(rest main_arg0 (by decide) (by decide)).trans (V_main_arg0 m c),
    (rest main_arg1 (by decide) (by decide)).trans (V_main_arg1 m c),
    ((h c).1 1).trans (((dats m 0 c).arrAt_in 1 rfl _).trans ((A_eq m c 1).trans (V_main_arg2 m c))),
    (rest main_arg3 (by decide) (by decide)).trans (V_main_arg3 m c),
    (rest main_arg4 (by decide) (by decide)).trans (V_main_arg4 m c),
    (rest main_arg5 (by decide) (by decide)).trans (V_main_arg5 m c),
    (rest main_arg6 (by decide) (by decide)).trans (V_main_arg6 m c)⟩

/-- Every execution leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨args_kept m h.1, h.2⟩) (run_main m ρ)

end Cert.KernelIdeal.Stream

end
-- ==== Proof.KernelFrame.lean ====
/- The compiled kernel's frame. Its printed text and the idealized module's are one text, generic in the float values:
   the two programs are the same term, so the frame proved of one is the frame of the other. -/
module

public import proofs.«01_k».proof.Proof.Launch
public import proofs.«01_k».proof.Proof.Gen.Kernel

@[expose] public section

set_option maxRecDepth 16384

noncomputable section

namespace Cert.Kernel.Stream

open Idealize.ShloMosaic Idealize.ShloMosaic.TcCoe Idealize.SL.Sem
open Cert.Kernel Cert.Kernel.Gen

variable {F : FTy → Type} [FloatOps F]

/-- The bodies of the two programs' grid points are the same, label by label. -/
theorem points_eq : Cert.Kernel.defs₀ (F := F) = Cert.KernelIdeal.defs₀ (F := F) := by
  unfold Cert.Kernel.defs₀ Cert.KernelIdeal.defs₀
  congr 1
  funext x
  match x with
  | 0 => rfl

/-- The same of all their labels. -/
theorem defs_eq : Cert.Kernel.defs (F := F) = Cert.KernelIdeal.defs (F := F) := by
  unfold Cert.Kernel.defs Cert.KernelIdeal.defs
  rw [points_eq]
  rfl

variable (m : (ℓ : Loc nD τ sig) → Buf (Elt F) ℓ) (ρ : Dev nD → PrngReg)

/-- The compiled kernel runs, its arguments end unchanged, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  rw [defs_eq]
  exact Cert.KernelIdeal.Stream.frame (F := F) m ρ

end Cert.Kernel.Stream

end
-- ==== Proof.RefFrame.lean ====
/- The reference's frame: its run read at its argument buffers. It has no semaphore, so its counters are zero because there is none. -/
module

public import proofs.«01_k».proof.Proof.Gen.ReferenceIdeal.Run

@[expose] public section

noncomputable section

namespace Cert.ReferenceIdeal.Attend

open Idealize.ShloMosaic Idealize.ShloMosaic.TcCoe Idealize.SL.Sem
open Cert.ReferenceIdeal Cert.ReferenceIdeal.Gen

variable {F : FTy → Type} [FloatOps F]

/-- The signature declares no semaphore. -/
theorem no_cell : IsEmpty (SemLoc sig) :=
  Fintype.card_eq_zero_iff.mp SemLoc.card_eq

variable (m : (ℓ : Loc nD τ sig) → Buf (Elt F) ℓ) (ρ : Dev nD → PrngReg)

/-- The reference runs, its arguments end unchanged, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h c).2, funext fun g => (no_cell.false g.2).elim⟩) (Cert.ReferenceIdeal.Value.run m ρ)

end Cert.ReferenceIdeal.Attend

end
-- ==== Proof.Attend.lean ====
/- The mathematics, on extended reals and free of either program: with real scores the weights' sum is a positive real,
   so dividing by it once, after the projection, is dividing every weight by it; a factor of 1/8 on the query is a
   division of the scores by 8. -/
module

public import Idealize.ShloMosaic.PureOps.Ideal

@[expose] public section

noncomputable section

namespace Cert.Attend

open Idealize.ShloMosaic

/-! ## Real values -/

/-- The value is a real number. -/
def IsReal (x : EReal) : Prop := ∃ r : ℝ, (r : EReal) = x

theorem IsReal.add {x y : EReal} : IsReal x → IsReal y → IsReal (x + y)
  | ⟨a, ha⟩, ⟨b, hb⟩ => ⟨a + b, by rw [EReal.coe_add, ha, hb]⟩
theorem IsReal.mul {x y : EReal} : IsReal x → IsReal y → IsReal (x * y)
  | ⟨a, ha⟩, ⟨b, hb⟩ => ⟨a * b, by rw [EReal.coe_mul, ha, hb]⟩
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s
theorem IsReal.sum {ι : Type} (s : Finset ι) {f : ι → EReal} (h : ∀ i, IsReal (f i)) : IsReal (∑ i ∈ s, f i) := by
  choose g hg using h
  exact ⟨∑ i ∈ s, g i, by rw [coe_sum]; simp only [hg]⟩
/-- A value whose magnitude is below infinity is real. -/
theorem isReal_of_abs_lt {x : EReal} (h : max x (-x) < ⊤) : IsReal x := by
  induction x using EReal.rec with
  | bot => simp at h
  | top => simp at h
  | coe r => exact ⟨r, rfl⟩

/-- A nonnegative real factor goes into a sum. -/
theorem sum_mul_coe {ι : Type} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

theorem div_coe (x : EReal) {c : ℝ} (hc : c ≠ 0) : Ideal.div x (c : EReal) = x * ((c⁻¹ : ℝ) : EReal) := by
  unfold Ideal.div
  rw [if_neg (by exact_mod_cast hc), EReal.coe_inv]

/-! ## Scores -/

/-- Scaling the query by 1/8 is dividing the score by 8. -/
theorem score_scaled {ι : Type} [Fintype ι] (q v : ι → EReal) :
    ∑ d, q d * ((8⁻¹ : ℝ) : EReal) * v d = Ideal.div (∑ d, q d * v d) ((8 : ℝ) : EReal) := by
  rw [div_coe _ (by norm_num), sum_mul_coe _ _ (by norm_num)]
  exact Finset.sum_congr rfl fun d _ => mul_right_comm _ _ _
theorem isReal_div_eight {x : EReal} (h : IsReal x) : IsReal (Ideal.div x ((8 : ℝ) : EReal)) := by
  rw [div_coe _ (by norm_num)]
  exact h.mul ⟨_, rfl⟩

/-- A row of a table picked out by a product with an indicator of its number. -/
theorem indicator_sum {n : ℕ} (v : Fin n) (w f : Fin n → EReal) (h1 : w v = 1) (h0 : ∀ i, i ≠ v → w i = 0) : ∑ i, w i * f i = f v := by
  rw [Finset.sum_eq_single v (fun i _ hi => by rw [h0 i hi, zero_mul]) (fun h => absurd (Finset.mem_univ v) h), h1, one_mul]

/-! ## Weights -/

section Weights
variable {ι : Type} [Fintype ι] (s : ι → EReal)

/-- The greatest score, -/
def greatest : EReal := Finset.univ.fold max ⊥ s
/-- the weight of a position before it is divided by -/
def weight (r : ι) : EReal := Ideal.exp (s r - greatest s)
/-- the sum of the weights. -/
def total : EReal := ∑ r, weight s r

variable {s}

theorem greatest_real [Nonempty ι] (h : ∀ r, IsReal (s r)) : IsReal (greatest s) := by
  obtain ⟨r, -, hr⟩ := Finset.exists_mem_eq_sup Finset.univ Finset.univ_nonempty s
  have e : greatest s = Finset.univ.sup s := rfl
  rw [e, hr]; exact h r
theorem weight_pos [Nonempty ι] (h : ∀ r, IsReal (s r)) (r : ι) : ∃ w : ℝ, 0 < w ∧ weight s r = w := by
  obtain ⟨a, ha⟩ := h r
  obtain ⟨b, hb⟩ := greatest_real h
  refine ⟨Real.exp (a - b), Real.exp_pos _, ?_⟩
  rw [weight, ← ha, ← hb, ← EReal.coe_sub]; rfl
theorem total_pos [Nonempty ι] (h : ∀ r, IsReal (s r)) : ∃ t : ℝ, 0 < t ∧ total s = t := by
  choose w hw he using weight_pos h
  exact ⟨∑ r, w r, Finset.sum_pos (fun r _ => hw r) Finset.univ_nonempty, by rw [total, coe_sum]; simp only [he]⟩

/-- The division by the sum of the weights, moved past the pooling and the projection. -/
theorem division_deferred [Nonempty ι] {κ : Type} [Fintype κ] (h : ∀ r, IsReal (s r)) (v : ι → κ → EReal) (o : κ → EReal) :
    (∑ d, (∑ r, weight s r * v r d) * o d) * Ideal.div 1 (total s) = ∑ d, (∑ r, Ideal.div (weight s r) (total s) * v r d) * o d := by
  obtain ⟨t, ht, e⟩ := total_pos h
  have h0 : 0 ≤ t⁻¹ := inv_nonneg.mpr ht.le
  rw [e, div_coe _ ht.ne', one_mul, sum_mul_coe _ _ h0]
  refine Finset.sum_congr rfl fun d _ => ?_
  rw [mul_right_comm, sum_mul_coe _ _ h0]
  refine congrArg (· * o d) (Finset.sum_congr rfl fun r _ => ?_)
  rw [div_coe _ ht.ne', mul_right_comm]

end Weights

end Cert.Attend

end
-- ==== Proof.BlockValue.lean ====
/- The output block read at an index, as extended-real arithmetic on the staged operands and the batches' memories. -/
module

public import proofs.«01_k».proof.Proof.Attend
public import proofs.«01_k».proof.Proof.Block
public import Idealize.ShloMosaic.Lib.Pointwise

@[expose] public section

set_option maxRecDepth 16384

noncomputable section

namespace Cert.KernelIdeal.Stream

open Idealize.ShloMosaic
open Cert.KernelIdeal.Gen Cert.Attend

theorem an_eighth : Ideal.ofBits .f32 0x3E000000#32 = ((8⁻¹ : ℝ) : EReal) := by
  simp [Ideal.ofBits, Ideal.ieee, -EReal.coe_mul]; norm_num
theorem minus_infinity : Ideal.ofBits .f32 0xFF800000#32 = ⊥ := by simp [Ideal.ofBits, Ideal.ieee]

/-- An entry of a query row, -/
theorem queryRow_apply (x0 : Vec Ideal S8x64 .f32) (x1 x2 : Vec Ideal S64x64 .f32) (x3 : Vec Ideal S1x64 .f32) (k : Fin 8) (d : Fin 64) :
    queryRow x0 x1 x2 x3 k (ix2 0 d)
      = ((∑ e : Fin 64, (∑ v : Fin 64, x0 (ix2 k v) * x1 (ix2 v e)) * x2 (ix2 e d)) + x3 (ix2 0 d)) * ((8⁻¹ : ℝ) : EReal) := by
  pointwise [queryRow, k0_pay1]
  rw [an_eighth]
/-- a score, -/
theorem scores_apply (q : FVec Ideal S1x64 .f32) (M : Vec Ideal S2048x64 .f32) (r : Fin 2048) :
    scores q M (ix2 0 r) = ∑ d : Fin 64, q (ix2 0 d) * M (ix2 r d) := by
  pointwise [scores]
/-- a weight, -/
theorem weights_apply (s : FVec Ideal S1x2048 .f32) (r : Fin 2048) : k0_pay12 s (ix2 0 r) = weight (fun r : Fin 2048 => s (ix2 0 r)) r := by
  pointwise [k0_pay12]
  rw [minus_infinity]; rfl
/-- the sum of the weights, -/
theorem sums_apply (s : FVec Ideal S1x2048 .f32) : k0_pay13 s (ix2 0 0) = total fun r : Fin 2048 => s (ix2 0 r) := by
  pointwise [k0_pay13]
  exact Finset.sum_congr rfl fun r _ => weights_apply s r
/-- an entry of the pooled memory, -/
theorem pooled_apply (s : FVec Ideal S1x2048 .f32) (M : Vec Ideal S2048x64 .f32) (d : Fin 64) :
    pooled s M (ix2 0 d) = ∑ r : Fin 2048, weight (fun r : Fin 2048 => s (ix2 0 r)) r * M (ix2 r d) := by
  pointwise [pooled]
  exact Finset.sum_congr rfl fun r _ => by rw [weights_apply]
/-- a row of a stack, -/
theorem stack64_apply (f : Fin 8 → FVec Ideal S1x64 .f32) (k : Fin 8) (d : Fin 64) : stack64 f (ix2 k d) = f k (ix2 0 d) := by
  pointwise [stack64]
  fin_vals k with hk
  all_goals
    obtain rfl := Fin.ext (b := ⟨_, by decide⟩) hk
    rfl
theorem stack1_apply (f : Fin 8 → FVec Ideal S1x1 .f32) (k : Fin 8) : stack1 f (ix2 k 0) = f k (ix2 0 0) := by
  pointwise [stack1]
  fin_vals k with hk
  all_goals
    obtain rfl := Fin.ext (b := ⟨_, by decide⟩) hk
    rfl
/-- and an entry of the projection. -/
theorem project_apply (p : FVec Ideal S8x64 .f32) (l : FVec Ideal S8x1 .f32) (x4 : Vec Ideal S64x64 .f32) (x5 : Vec Ideal S1x64 .f32) (k : Fin 8) (j : Fin 64) :
    project p l x4 x5 (ix2 k j) = (∑ d : Fin 64, p (ix2 k d) * x4 (ix2 d j)) * Ideal.div 1 (l (ix2 k 0)) + x5 (ix2 0 j) := by
  pointwise [project]

theorem blockOut_apply (x0 : Vec Ideal S8x64 .f32) (x1 x2 : Vec Ideal S64x64 .f32) (x3 : Vec Ideal S1x64 .f32) (x4 : Vec Ideal S64x64 .f32)
    (x5 : Vec Ideal S1x64 .f32) (M : Fin 8 → Vec Ideal S2048x64 .f32) (k : Fin 8) (j : Fin 64) (s : Fin 2048 → EReal)
    (hs : ∀ r, s r = ∑ d : Fin 64, queryRow x0 x1 x2 x3 k (ix2 0 d) * M k (ix2 r d)) :
    blockOut x0 x1 x2 x3 x4 x5 M (ix2 k j)
      = (∑ d : Fin 64, (∑ r : Fin 2048, weight s r * M k (ix2 r d)) * x4 (ix2 d j)) * Ideal.div 1 (total s) + x5 (ix2 0 j) := by
  have e : (fun r : Fin 2048 => scores (queryRow x0 x1 x2 x3 k) (M k) (ix2 0 r)) = s := funext fun r => (scores_apply _ _ r).trans (hs r).symm
  unfold blockOut
  rw [project_apply, stack1_apply, sums_apply, e]
  simp only [stack64_apply, pooled_apply, e]

end Cert.KernelIdeal.Stream

end
-- ==== Proof.KernelValue.lean ====
/- What the kernel's launch stages and leaves, at an index: the host's one-hot rows, transposes and reshapes, the block of
   each that a grid point is handed, and the result array, block `t` of which is point `t`'s output block. -/
module

public import proofs.«01_k».proof.Proof.BlockValue
public import proofs.«01_k».proof.Proof.Launch
public import Idealize.ShloMosaic.Lib.Pipeline.ValueKit
public import Idealize.ShloMosaic.Lib.StableHlo.Run

@[expose] public section

set_option maxRecDepth 16384

noncomputable section

namespace Cert.KernelIdeal.Stream

open Idealize.ShloMosaic Idealize.ShloMosaic.TcCoe Idealize.ShloMosaic.StableHlo Idealize.SL.Sem
open Cert.KernelIdeal.Gen Cert.Attend

variable (m : (ℓ : Loc nD τ sig) → Buf (Elt Ideal) ℓ) (ρ : Dev nD → PrngReg) (c : Dev nD)

/-! ## The host's operands -/

theorem hot_eq : V m c main_v0
    = (uitofp .f32 (cmpi .eq
        (broadcastInDim S2048x64 ![0, 1] bcast_S2048x1_S2048x64_0_1 (broadcastInDim S2048x1 ![0] bcast_S2048_S2048x1_0 (m ((c : Thread nD τ).loc main_arg0) : IVec S2048 32)))
        (broadcastInDim S2048x64 ![0, 1] bcast_S1x64_S2048x64_0_1 (iotaInDim S1x64 32 1))) : FVec Ideal S2048x64 .f32) := by
  simp only [V, hostOps0, hostOps0_1, List.flatten_cons, List.flatten_nil, List.append_nil, List.cons_append, List.nil_append]; after_results_simp <;> rfl
theorem qWT_eq : V m c main_v1 = transpose S64x64 [1, 0] (m ((c : Thread nD τ).loc main_arg3)) transposes_S64x64_S64x64_1_0 := by
  simp only [V, hostOps0, hostOps0_1, List.flatten_cons, List.flatten_nil, List.append_nil, List.cons_append, List.nil_append]; after_results_simp <;> rfl
theorem oWT_eq : V m c main_v2 = transpose S64x64 [1, 0] (m ((c : Thread nD τ).loc main_arg5)) transposes_S64x64_S64x64_1_0 := by
  simp only [V, hostOps0, hostOps0_1, List.flatten_cons, List.flatten_nil, List.append_nil, List.cons_append, List.nil_append]; after_results_simp <;> rfl
theorem qb_eq : V m c main_v3 = shapeCast S1x64 (m ((c : Thread nD τ).loc main_arg4)) shapeCasts_S64_S1x64 := by
  simp only [V, hostOps0, hostOps0_1, List.flatten_cons, List.flatten_nil, List.append_nil, List.cons_append, List.nil_append]; after_results_simp <;> rfl
theorem ob_eq : V m c main_v4 = shapeCast S1x64 (m ((c : Thread nD τ).loc main_arg6)) shapeCasts_S64_S1x64 := by
  simp only [V, hostOps0, hostOps0_1, List.flatten_cons, List.flatten_nil, List.append_nil, List.cons_append, List.nil_append]; after_results_simp <;> rfl

/-! ## The blocks a point is handed -/

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)

theorem iblk0_apply (t : Fin cfg0.N) (k : Fin 8) (v : Fin 64) : iblk m c 0 t (ix2 k v) = V m c main_v0 (ix2 (batchOf t k) v) := by
  obtain ⟨e0, e1⟩ := idx0 t
  blk_ext [iblk, e0, e1]
theorem iblk1_apply (t : Fin cfg0.N) (v e : Fin 64) : iblk m c 1 t (ix2 v e) = V m c main_arg2 (ix2 v e) := by
  obtain ⟨e0, e1⟩ := idx1 t
  blk_ext [iblk, e0, e1]

theorem iblk2_apply (t : Fin cfg0.N) (e d : Fin 64) : iblk m c 2 t (ix2 e d) = V m c main_v1 (ix2 e d) := by
  obtain ⟨e0, e1⟩ := idx2 t
  blk_ext [iblk, e0, e1]
theorem iblk3_apply (t : Fin cfg0.N) (d : Fin 64) : iblk m c 3 t (ix2 0 d) = V m c main_v3 (ix2 0 d) := by
  obtain ⟨e0, e1⟩ := idx3 t
  blk_ext [iblk, e0, e1]
theorem iblk4_apply (t : Fin cfg0.N) (d j : Fin 64) : iblk m c 4 t (ix2 d j) = V m c main_v2 (ix2 d j) := by
  obtain ⟨e0, e1⟩ := idx4 t
  blk_ext [iblk, e0, e1]
theorem iblk5_apply (t : Fin cfg0.N) (j : Fin 64) : iblk m c 5 t (ix2 0 j) = V m c main_v4 (ix2 0 j) := by
  obtain ⟨e0, e1⟩ := idx5 t
  blk_ext [iblk, e0, e1]

/-! ## The operands at an index -/

theorem hot_apply (b : Fin 2048) (v : Fin 64) : V m c main_v0 (ix2 b v)
    = FloatOps.uitofp (F := Ideal) .f32 (IntOp.cmpi .eq ((m ((c : Thread nD τ).loc main_arg0) : IVec S2048 32) (ix1 b)) (BitVec.ofNat 32 v.val)) := by
  rw [hot_eq]; pointwise
theorem qWT_apply (e d : Fin 64) : V m c main_v1 (ix2 e d) = m ((c : Thread nD τ).loc main_arg3) (ix2 d e) := by
  rw [qWT_eq]; pointwise
theorem oWT_apply (d j : Fin 64) : V m c main_v2 (ix2 d j) = m ((c : Thread nD τ).loc main_arg5) (ix2 j d) := by
  rw [oWT_eq]; pointwise
theorem qb_apply (d : Fin 64) : V m c main_v3 (ix2 0 d) = m ((c : Thread nD τ).loc main_arg4) (ix1 d) := by
  rw [qb_eq]; pointwise
theorem ob_apply (j : Fin 64) : V m c main_v4 (ix2 0 j) = m ((c : Thread nD τ).loc main_arg6) (ix1 j) := by
  rw [ob_eq]; pointwise

/-- The one-hot entry of a query that names row `v`: one at `v`, zero elsewhere. -/
theorem same_row : ∀ v : Fin 64, IntOp.cmpi .eq (BitVec.ofNat 32 v.val) (BitVec.ofNat 32 v.val) = 1#1 := by decide
theorem other_row : ∀ v w : Fin 64, w ≠ v → IntOp.cmpi .eq (BitVec.ofNat 32 v.val) (BitVec.ofNat 32 w.val) = 0#1 := by decide +kernel
theorem hot_one {b : Fin 2048} {v : Fin 64} (hv : (m ((c : Thread nD τ).loc main_arg0) : IVec S2048 32) (ix1 b) = BitVec.ofNat 32 v.val) :
    V m c main_v0 (ix2 b v) = (1 : EReal) := by
  rw [hot_apply, hv, same_row]
  show ((((1#1).toNat : ℕ) : ℝ) : EReal) = 1
  norm_num
theorem hot_zero {b : Fin 2048} {v : Fin 64} (hv : (m ((c : Thread nD τ).loc main_arg0) : IVec S2048 32) (ix1 b) = BitVec.ofNat 32 v.val)
    (w : Fin 64) (hw : w ≠ v) : V m c main_v0 (ix2 b w) = (0 : EReal) := by
  rw [hot_apply, hv, other_row v w hw]
  show ((((0#1).toNat : ℕ) : ℝ) : EReal) = 0
  norm_num

/-- What point `t` computes in its row `k`, whose query names row `v` of the table. -/
theorem outAt_apply {q : IVec S2048 32} {M : FVec Ideal S2048x2048x64 .f32} {emb qW oW : FVec Ideal S64x64 .f32} {qb ob : FVec Ideal S64 .f32}
    (h0 : m ((c : Thread nD τ).loc main_arg0) = q) (h1 : m ((c : Thread nD τ).loc main_arg1) = M) (h2 : m ((c : Thread nD τ).loc main_arg2) = emb)
    (h3 : m ((c : Thread nD τ).loc main_arg3) = qW) (h4 : m ((c : Thread nD τ).loc main_arg4) = qb) (h5 : m ((c : Thread nD τ).loc main_arg5) = oW)
    (h6 : m ((c : Thread nD τ).loc main_arg6) = ob)
    (t : Fin cfg0.N) (k : Fin 8) (j v : Fin 64) (hv : q (ix1 (batchOf t k)) = BitVec.ofNat 32 v.val) (s : Fin 2048 → EReal)
    (hs : ∀ r, s r = ∑ d : Fin 64, ((∑ e : Fin 64, emb (ix2 v e) * qW (ix2 d e)) + qb (ix1 d)) * ((8⁻¹ : ℝ) : EReal) * M (ix3 (batchOf t k) r d)) :
    outAt m c t (ix2 k j)
      = (∑ d : Fin 64, (∑ r : Fin 2048, weight s r * M (ix3 (batchOf t k) r d)) * oW (ix2 j d)) * Ideal.div 1 (total s) + ob (ix1 j) := by
  have hM : ∀ (r : Fin 2048) (d : Fin 64), batch (V m c main_arg1) (Ring.bk 256 t.val) k (ix2 r d) = M (ix3 (batchOf t k) r d) := fun r d => by
    rw [V_main_arg1, h1]
    have ht : Ring.bk 256 t.val = t := Fin.ext (Ring.bk_val t.isLt)
    rw [ht]
    rfl
  have hq0 : (m ((c : Thread nD τ).loc main_arg0) : IVec S2048 32) (ix1 (batchOf t k)) = BitVec.ofNat 32 v.val := (congrFun h0 _).trans hv
  refine (blockOut_apply _ _ _ _ _ _ _ k j s fun r => ?_).trans ?_
  · rw [hs r]
    refine Finset.sum_congr rfl fun d _ => ?_
    rw [queryRow_apply, hM, iblk3_apply, qb_apply, h4]
    have he := fun e : Fin 64 => (indicator_sum v (fun w : Fin 64 => iblk m c 0 t (ix2 k w)) (fun w : Fin 64 => iblk m c 1 t (ix2 w e))
      ((iblk0_apply m c t k v).trans (hot_one m c hq0)) fun w hw => (iblk0_apply m c t k w).trans (hot_zero m c hq0 w hw)).trans
      ((iblk1_apply m c t v e).trans ((congrFun (V_main_arg2 m c) _).trans (congrFun h2 _)))
    have hq : ∀ e : Fin 64, iblk m c 2 t (ix2 e d) = qW (ix2 d e) := fun e => (iblk2_apply m c t e d).trans ((qWT_apply m c e d).trans (congrFun h3 _))
    refine congrArg (fun x : EReal => (x + _) * _ * _) (Finset.sum_congr rfl fun e _ => ?_)
    exact (congrArg₂ (fun x y : EReal => x * y) (he e) (hq e)).symm
  · have ho : ∀ d : Fin 64, iblk m c 4 t (ix2 d j) = oW (ix2 j d) := fun d => (iblk4_apply m c t d j).trans ((oWT_apply m c d j).trans (congrFun h5 _))
    rw [iblk5_apply, ob_apply, h6]
    refine congrArg (fun x : EReal => x * _ + _) (Finset.sum_congr rfl fun d _ => ?_)
    refine congrArg₂ (fun x y : EReal => x * y) (Finset.sum_congr rfl fun r _ => ?_) (ho d)
    exact congrArg (fun x : EReal => weight s r * x) (hM r d)

/-! ## The result array -/

theorem final_eq (G : S2048x64.Idx → Ideal .f32)
    (hG : ∀ (t : Fin cfg0.N) (k : Fin 8) (j : Fin 64), outAt m c t (ix2 k j) = G (ix2 (batchOf t k) j)) :
    (dats m 0 c).arrAt 6 cfg0.N = G := by
  refine (dats m 0 c).arrAt_eq_of_covers 6 G (by decide +kernel) fun t _ y => ?_
  obtain ⟨e0, e1⟩ := idx6 t
  rw [after_6]
  idx_vars y
  refine (hG t y0 y1).trans (congrArg G ?_)
  blk_ext [e0, e1]

end Cert.KernelIdeal.Stream

end
-- ==== Proof.RefValue.lean ====
/- The reference read at an index. Its composed term is cut at the queries, the scores and the weights; each is read at an
   index as extended-real arithmetic, the embedding lookup at a query in its range as a row of the table. -/
module

public import proofs.«01_k».proof.Proof.Attend
public import proofs.«01_k».proof.Proof.Gen.ReferenceIdeal.Run
public import Idealize.ShloMosaic.Lib.Pointwise

@[expose] public section

set_option maxRecDepth 16384

noncomputable section

namespace Cert.ReferenceIdeal.Attend

open Idealize.ShloMosaic Idealize.ShloMosaic.TcCoe
open Cert.ReferenceIdeal Cert.ReferenceIdeal.Gen Cert.Attend

/-! ## The term, cut -/

/-- The rows of the table the queries name, a negative one counted from the end, -/
def starts (q : IVec S2048 32) : IVec S2048x1 32 :=
  broadcastInDim S2048x1 ![0] bcast_S2048_S2048x1_0
    (select (cmpi .slt q (broadcastInDim S2048 ![] bcast_S_S2048 (constantI S_ 32 0#32)))
      (addi q (broadcastInDim S2048 ![] bcast_S_S2048 (constantI S_ 32 64#32))) q)
/-- the queries, -/
def queries (q : IVec S2048 32) (emb qW : FVec Ideal S64x64 .f32) (qb : FVec Ideal S64 .f32) : FVec Ideal S2048x64 .f32 :=
  addf (Host.dotGeneral dot_S2048x64_S64x64_S2048x64_1_0_0_1_n_n none
      (Host.gather gather_S64x64_S2048x1_S2048x64_1_0_n_n_0_1_164 emb (starts q)) (transpose S64x64 [1, 0] qW transposes_S64x64_S64x64_1_0))
    (broadcastInDim S2048x64 ![0, 1] bcast_S1x64_S2048x64_0_1 (broadcastInDim S1x64 ![1] bcast_S64_S1x64_1 qb))
/-- their scores against their memories, -/
def scores (Q : FVec Ideal S2048x64 .f32) (M : FVec Ideal S2048x2048x64 .f32) : FVec Ideal S2048x2048 .f32 :=
  Host.divf (Host.dotGeneral dot_S2048x64_S2048x2048x64_S2048x2048_1_2_n_1_0_0 none Q M)
    (broadcastInDim S2048x2048 ![] bcast_S_S2048x2048 (Host.sqrt (constant S_ .f32 0x42800000#32)))
/-- each query's greatest score, -/
def peaks (s : FVec Ideal S2048x2048 .f32) : FVec Ideal S2048 .f32 :=
  Host.reduce FloatOps.maximumf s (constant S_ .f32 0xFF800000#32) reducesTo_S2048x2048_S2048_d1 h_S_
/-- the exponentials of the scores below it, -/
def weights (s : FVec Ideal S2048x2048 .f32) (p : FVec Ideal S2048 .f32) : FVec Ideal S2048x2048 .f32 :=
  Host.exp (subf s (broadcastInDim S2048x2048 ![0, 1] bcast_S2048x1_S2048x2048_0_1 (broadcastInDim S2048x1 ![0] bcast_S2048_S2048x1_0
    (maximumf (broadcastInDim S2048 ![] bcast_S_S2048 (constant S_ .f32 0xFF800000#32)) p))))
/-- and the memories pooled under these, divided by their sums, and projected. -/
def project (w : FVec Ideal S2048x2048 .f32) (M : FVec Ideal S2048x2048x64 .f32) (oW : FVec Ideal S64x64 .f32) (ob : FVec Ideal S64 .f32) :
    FVec Ideal S2048x64 .f32 :=
  addf (Host.dotGeneral dot_S2048x64_S64x64_S2048x64_1_0_0_1_n_n none
      (Host.dotGeneral dot_S2048x2048_S2048x2048x64_S2048x64_1_1_n_2_0_0 none
        (Host.divf w (broadcastInDim S2048x2048 ![0, 1] bcast_S2048x1_S2048x2048_0_1 (broadcastInDim S2048x1 ![0] bcast_S2048_S2048x1_0
          (Host.reduceAdd w (constant S_ .f32 0x00000000#32) reducesTo_S2048x2048_S2048_d1 h_S_)))) M)
      (transpose S64x64 [1, 0] oW transposes_S64x64_S64x64_1_0))
    (broadcastInDim S2048x64 ![0, 1] bcast_S1x64_S2048x64_0_1 (broadcastInDim S1x64 ![1] bcast_S64_S1x64_1 ob))

theorem result_eq (m : (ℓ : Loc nD τ sig) → Buf (Elt Ideal) ℓ) (c : Dev nD) (s : FVec Ideal S2048x2048 .f32)
    (hs : s = scores (queries (m ((c.tc : Thread nD τ).loc main_arg0)) (m ((c.tc : Thread nD τ).loc main_arg2))
      (m ((c.tc : Thread nD τ).loc main_arg3)) (m ((c.tc : Thread nD τ).loc main_arg4))) (m ((c.tc : Thread nD τ).loc main_arg1))) :
    Value.res_main_v32 m c
      = project (weights s (peaks s)) (m ((c.tc : Thread nD τ).loc main_arg1)) (m ((c.tc : Thread nD τ).loc main_arg5)) (m ((c.tc : Thread nD τ).loc main_arg6)) := by
  subst hs; rfl

/-! ## Each part at an index -/

/-- A row gather reads the row that its start index names, clamped into the table. -/
theorem gather_row (x : FVec Ideal S64x64 .f32) (idx : IVec S2048x1 32) (b : Fin 2048) (k : Fin 64) :
    Host.gather gather_S64x64_S2048x1_S2048x64_1_0_n_n_0_1_164 x idx (ix2 b k)
      = x (ix2 ⟨min (idx (ix2 b 0)).toInt.toNat 63, by omega⟩ k) := by
  let d : GatherDims S64x64 S2048x1 S2048x64 := gather_S64x64_S2048x1_S2048x64_1_0_n_n_0_1_164
  unfold Host.gather
  congr 1
  funext a
  refine Fin.ext ?_
  show d.start (ix2 b k) idx a + d.batchCoord (ix2 b k) a + d.offCoord (ix2 b k) a = _
  rw [GatherDims.batchCoord_eq_zero d _ _ List.not_mem_nil]
  unfold GatherDims.start
  obtain rfl | rfl : a = 0 ∨ a = 1 := by
    match a with
    | ⟨0, _⟩ => exact Or.inl rfl
    | ⟨1, _⟩ => exact Or.inr rfl
  · rw [dif_pos (show (0 : Fin 2) ∈ d.startIndexMap from List.mem_singleton.mpr rfl),
      GatherDims.offCoord_eq_zero d _ _ (fun h => ((GatherDims.mem_sKept _ _).mp h).1 (List.mem_singleton.mpr rfl))]
    have e : d.siIdx (ix2 b k) ⟨List.idxOf (0 : Fin 2) d.startIndexMap, List.idxOf_lt_length_iff.2 (List.mem_singleton.mpr rfl)⟩ = ix2 b 0 := by
      funext a; refine Fin.ext ?_
      match a with
      | ⟨0, _⟩ => rfl
      | ⟨1, _⟩ => rfl
    rw [e]; rfl
  · rw [dif_neg (show (1 : Fin 2) ∉ d.startIndexMap from fun h => absurd (List.mem_singleton.mp h) (by decide))]
    rw [zero_add, zero_add]; rfl

/-- A number below 64 read as a row: it is not negative, and the clamp leaves it. -/
theorem row_named : ∀ v : Fin 64,
    min (Scalar.select (IntOp.cmpi .slt (BitVec.ofNat 32 v.val) 0#32) (IntOp.addi (BitVec.ofNat 32 v.val) 64#32) (BitVec.ofNat 32 v.val)).toInt.toNat 63 = v.val := by
  decide
theorem lookup (emb : FVec Ideal S64x64 .f32) {q : IVec S2048 32} {b : Fin 2048} {v : Fin 64} (hv : q (ix1 b) = BitVec.ofNat 32 v.val) (k : Fin 64) :
    Host.gather gather_S64x64_S2048x1_S2048x64_1_0_n_n_0_1_164 emb (starts q) (ix2 b k) = emb (ix2 v k) := by
  have e : starts q (ix2 b 0) = Scalar.select (IntOp.cmpi .slt (q (ix1 b)) 0#32) (IntOp.addi (q (ix1 b)) 64#32) (q (ix1 b)) := by
    pointwise [starts]
  rw [gather_row]
  refine congrArg emb (congrArg (ix2 · k) (Fin.ext ?_))
  show min (starts q (ix2 b 0)).toInt.toNat 63 = _
  rw [e, hv]
  exact row_named v

theorem queries_apply (emb qW : FVec Ideal S64x64 .f32) (qb : FVec Ideal S64 .f32) {q : IVec S2048 32} {b : Fin 2048} {v : Fin 64}
    (hv : q (ix1 b) = BitVec.ofNat 32 v.val) (d : Fin 64) :
    queries q emb qW qb (ix2 b d) = (∑ k : Fin 64, emb (ix2 v k) * qW (ix2 d k)) + qb (ix1 d) := by
  pointwise [queries]
  simp only [lookup emb hv]

theorem sqrt_sixty_four : Ideal.sqrt (Ideal.ofBits .f32 0x42800000#32) = ((8 : ℝ) : EReal) := by
  have e : Ideal.ofBits .f32 0x42800000#32 = ((64 : ℝ) : EReal) := by
    simp [Ideal.ofBits, Ideal.ieee, -EReal.coe_mul]; norm_num
  rw [e]
  show (if (64 : ℝ) < 0 then (⊥ : EReal) else ((√64 : ℝ) : EReal)) = _
  rw [if_neg (by norm_num), show (64 : ℝ) = 8 * 8 by norm_num, Real.sqrt_mul_self (by norm_num)]
theorem scores_apply (Q : FVec Ideal S2048x64 .f32) (M : FVec Ideal S2048x2048x64 .f32) (b r : Fin 2048) :
    scores Q M (ix2 b r) = Ideal.div (∑ d : Fin 64, Q (ix2 b d) * M (ix3 b r d)) ((8 : ℝ) : EReal) := by
  pointwise [scores]
  rw [sqrt_sixty_four]

theorem minus_infinity : Ideal.ofBits .f32 0xFF800000#32 = ⊥ := by simp [Ideal.ofBits, Ideal.ieee]
theorem reduces_row : S2048x2048.Reduces [1] S2048 := by decide
theorem peaks_apply (s : FVec Ideal S2048x2048 .f32) (b : Fin 2048) : peaks s (ix1 b) = greatest fun r : Fin 2048 => s (ix2 b r) := by
  refine (Host.reduce_eq_fold_single (max : EReal → EReal → EReal) s _ reducesTo_S2048x2048_S2048_d1 reduces_row h_S_ (ix1 b)).trans ?_
  have e : ∀ r : Fin 2048, reduces_row.lift (ix1 b) r = ix2 b r := fun r => by
    funext a
    match a with
    | ⟨0, _⟩ => rfl
    | ⟨1, _⟩ => rfl
  have e' : s ∘ reduces_row.lift (ix1 b) = fun r : Fin 2048 => s (ix2 b r) := funext fun r => congrArg s (e r)
  rw [e']
  exact congrArg (fun z => Finset.fold max z (fun r : Fin 2048 => s (ix2 b r)) Finset.univ) minus_infinity
theorem weights_apply (s : FVec Ideal S2048x2048 .f32) (p : FVec Ideal S2048 .f32) (b r : Fin 2048) :
    weights s p (ix2 b r) = Ideal.exp (s (ix2 b r) - p (ix1 b)) := by
  pointwise [weights]
  rw [minus_infinity, max_eq_right bot_le]
theorem project_apply (w : FVec Ideal S2048x2048 .f32) (M : FVec Ideal S2048x2048x64 .f32) (oW : FVec Ideal S64x64 .f32) (ob : FVec Ideal S64 .f32)
    (b : Fin 2048) (j : Fin 64) :
    project w M oW ob (ix2 b j)
      = (∑ d : Fin 64, (∑ r : Fin 2048, Ideal.div (w (ix2 b r)) (∑ r : Fin 2048, w (ix2 b r)) * M (ix3 b r d)) * oW (ix2 j d)) + ob (ix1 j) := by
  pointwise [project]

end Cert.ReferenceIdeal.Attend

end
-- ==== Proof.Equal.lean ====
/- The two programs' results are one array. The precondition is read at an index: every query names a row of the table, and
   the memories, the table, the query matrix and its bias are real. So the scores are real, the kernel's scaled queries give
   the reference's scores, and its one division of the projected sum is the reference's division of each weight. -/
module

public import proofs.«01_k».proof.Proof.KernelValue
public import proofs.«01_k».proof.Proof.RefValue
public import proofs.«01_k».proof.Defs

@[expose] public section

set_option maxRecDepth 16384

noncomputable section

namespace Cert.Equal

open Idealize.ShloMosaic Idealize.ShloMosaic.TcCoe Idealize.SL.Sem
open Cert.KernelIdeal Cert.Attend

/-! ## The precondition at an index -/

instance stated : Cert.Pre_named_and_finite.Facts := ⟨by decide, by decide, by decide, by decide⟩

/-- A word that is at least zero and less than 64 is a row of the table. -/
theorem row_of_range {x : BitVec 32} (h : IntOp.andi (IntOp.cmpi .sge x 0#32) (IntOp.cmpi .slt x 64#32) = 1#1) :
    ∃ v : Fin 64, x = BitVec.ofNat 32 v.val := by
  have bits : ∀ a b : Bool, BitVec.ofBool a &&& BitVec.ofBool b = 1#1 → a = true ∧ b = true := by decide
  obtain ⟨hge, hlt⟩ := bits _ _ h
  have hge : (0#32).sle x = true := hge
  have hlt : x.slt 64#32 = true := hlt
  rw [BitVec.sle_iff_toInt_le] at hge
  rw [BitVec.slt_iff_toInt_lt] at hlt
  have h0 : (0#32).toInt = 0 := by decide
  have h64 : (64#32).toInt = 64 := by decide
  have hx := x.toInt_eq_toNat_cond
  have hb := x.isLt
  have hn : x.toNat < 64 := by split at hx <;> omega
  exact ⟨⟨x.toNat, hn⟩, by simp⟩

/-- An extended real the precondition's comparison admits is real. -/
theorem isReal_of_bit {x : EReal} (h : BitVec.ofBool (decide (FloatOps.absf (F := Ideal) (φ := .f32) x < Ideal.ofBits .f32 0x7F800000#32)) = 1#1) : IsReal x := by
  have bit : ∀ a : Bool, BitVec.ofBool a = 1#1 → a = true := by decide
  have hlt := of_decide_eq_true (bit _ h)
  have top : Ideal.ofBits .f32 0x7F800000#32 = ⊤ := by simp [Ideal.ofBits, Ideal.ieee]
  rw [top] at hlt
  exact isReal_of_abs_lt hlt

/-- What the precondition says of the arrays, index by index. -/
structure Admitted (q : IVec S2048 32) (M : FVec Ideal S2048x2048x64 .f32) (emb qW : FVec Ideal S64x64 .f32) (qb : FVec Ideal S64 .f32) : Prop where
  row : ∀ b : Fin 2048, ∃ v : Fin 64, q (ix1 b) = BitVec.ofNat 32 v.val
  memory : ∀ (b r : Fin 2048) (d : Fin 64), IsReal (M (ix3 b r d))
  table : ∀ v e : Fin 64, IsReal (emb (ix2 v e))
  matrix : ∀ d e : Fin 64, IsReal (qW (ix2 d e))
  bias : ∀ d : Fin 64, IsReal (qb (ix1 d))

theorem admitted (q : IVec S2048 32) (M : FVec Ideal S2048x2048x64 .f32) (emb qW oW : FVec Ideal S64x64 .f32) (qb ob : FVec Ideal S64 .f32)
    (h : (Cert.Pre_named_and_finite.fn (F := Ideal) q M emb qW qb oW ob).1 = (fun _ => 1#1)
      ∧ (Cert.Pre_named_and_finite.fn (F := Ideal) q M emb qW qb oW ob).2.1 = (fun _ => 1#1)
      ∧ (Cert.Pre_named_and_finite.fn (F := Ideal) q M emb qW qb oW ob).2.2.1 = (fun _ => 1#1)
      ∧ (Cert.Pre_named_and_finite.fn (F := Ideal) q M emb qW qb oW ob).2.2.2.1 = (fun _ => 1#1)
      ∧ (Cert.Pre_named_and_finite.fn (F := Ideal) q M emb qW qb oW ob).2.2.2.2 = (fun _ => 1#1)) :
    Admitted q M emb qW qb where
  row b := by
    have := congrFun h.1 (ix1 b)
    pointwise [Cert.Pre_named_and_finite.fn] at this
    exact row_of_range this
  memory b r d := by
    have := congrFun h.2.1 (ix3 b r d)
    pointwise [Cert.Pre_named_and_finite.fn] at this
    exact isReal_of_bit this
  table v e := by
    have := congrFun h.2.2.1 (ix2 v e)
    pointwise [Cert.Pre_named_and_finite.fn] at this
    exact isReal_of_bit this
  matrix d e := by
    have := congrFun h.2.2.2.1 (ix2 d e)
    pointwise [Cert.Pre_named_and_finite.fn] at this
    exact isReal_of_bit this
  bias d := by
    have := congrFun h.2.2.2.2 (ix1 d)
    pointwise [Cert.Pre_named_and_finite.fn] at this
    exact isReal_of_bit this

/-! ## The results -/

/-- The array both programs leave. -/
def answer (q : IVec S2048 32) (M : FVec Ideal S2048x2048x64 .f32) (emb qW oW : FVec Ideal S64x64 .f32) (qb ob : FVec Ideal S64 .f32) : FVec Ideal S2048x64 .f32 :=
  let s := ReferenceIdeal.Attend.scores (ReferenceIdeal.Attend.queries q emb qW qb) M
  ReferenceIdeal.Attend.project (ReferenceIdeal.Attend.weights s (ReferenceIdeal.Attend.peaks s)) M oW ob

/-- It at an index whose query names row `v` of the table. -/
theorem answer_apply {q : IVec S2048 32} (M : FVec Ideal S2048x2048x64 .f32) (emb qW oW : FVec Ideal S64x64 .f32) (qb ob : FVec Ideal S64 .f32)
    (b : Fin 2048) (j v : Fin 64) (hv : q (ix1 b) = BitVec.ofNat 32 v.val) (s : Fin 2048 → EReal)
    (hs : ∀ r, s r = Ideal.div (∑ d : Fin 64, ((∑ e : Fin 64, emb (ix2 v e) * qW (ix2 d e)) + qb (ix1 d)) * M (ix3 b r d)) ((8 : ℝ) : EReal)) :
    answer q M emb qW oW qb ob (ix2 b j)
      = (∑ d : Fin 64, (∑ r : Fin 2048, Ideal.div (weight s r) (total s) * M (ix3 b r d)) * oW (ix2 j d)) + ob (ix1 j) := by
  have hsc : ∀ r, ReferenceIdeal.Attend.scores (ReferenceIdeal.Attend.queries q emb qW qb) M (ix2 b r) = s r := fun r => by
    rw [ReferenceIdeal.Attend.scores_apply, hs]
    simp only [ReferenceIdeal.Attend.queries_apply emb qW qb hv]
  have hw : ∀ r, ReferenceIdeal.Attend.weights (ReferenceIdeal.Attend.scores (ReferenceIdeal.Attend.queries q emb qW qb) M)
      (ReferenceIdeal.Attend.peaks (ReferenceIdeal.Attend.scores (ReferenceIdeal.Attend.queries q emb qW qb) M)) (ix2 b r) = weight s r := fun r => by
    rw [ReferenceIdeal.Attend.weights_apply, ReferenceIdeal.Attend.peaks_apply]
    simp only [hsc]
    rfl
  unfold answer
  rw [ReferenceIdeal.Attend.project_apply]
  simp only [hw]
  rfl

/-- Point `t` of the kernel's grid computes the answer's block `t`. -/
theorem outAt_eq (m : (ℓ : Loc nD τ sig) → Buf (Elt Ideal) ℓ) (c : Dev nD)
    {q : IVec S2048 32} {M : FVec Ideal S2048x2048x64 .f32} {emb qW oW : FVec Ideal S64x64 .f32} {qb ob : FVec Ideal S64 .f32}
    (h0 : m ((c : Thread nD τ).loc main_arg0) = q) (h1 : m ((c : Thread nD τ).loc main_arg1) = M) (h2 : m ((c : Thread nD τ).loc main_arg2) = emb)
    (h3 : m ((c : Thread nD τ).loc main_arg3) = qW) (h4 : m ((c : Thread nD τ).loc main_arg4) = qb) (h5 : m ((c : Thread nD τ).loc main_arg5) = oW)
    (h6 : m ((c : Thread nD τ).loc main_arg6) = ob) (h : Admitted q M emb qW qb) (t : Fin cfg0.N) (k : Fin 8) (j : Fin 64) :
    Stream.outAt m c t (ix2 k j) = answer q M emb qW oW qb ob (ix2 (Stream.batchOf t k) j) := by
  obtain ⟨v, hv⟩ := h.row (Stream.batchOf t k)
  have hs := fun r : Fin 2048 => (score_scaled (fun d : Fin 64 => (∑ e : Fin 64, emb (ix2 v e) * qW (ix2 d e)) + qb (ix1 d)) (fun d => M (ix3 (Stream.batchOf t k) r d))).symm
  refine (Stream.outAt_apply m c h0 h1 h2 h3 h4 h5 h6 t k j v hv _ fun r => rfl).trans ?_
  rw [answer_apply M emb qW oW qb ob (Stream.batchOf t k) j v hv _ fun r => (hs r).symm]
  refine congrArg (fun x : EReal => x + ob (ix1 j)) (division_deferred (fun r => ?_) (fun r d => M (ix3 (Stream.batchOf t k) r d)) fun d => oW (ix2 j d))
  rw [← hs r]
  exact isReal_div_eight (IsReal.sum _ fun d => ((IsReal.sum _ fun e => (h.table v e).mul (h.matrix d e)).add (h.bias d)).mul (h.memory _ r d))

/-- Under the precondition the kernel's final array is the reference's result. -/
theorem final_eq_result (m : (ℓ : Loc nD τ sig) → Buf (Elt Ideal) ℓ)
    (m' : (ℓ : Loc ReferenceIdeal.nD ReferenceIdeal.τ ReferenceIdeal.sig) → Buf (Elt Ideal) ℓ) (c : Dev nD)
    (hpre : Pre_KernelIdeal_named_and_finite m)
    (h0 : m ((c.tc : Thread nD τ).loc main_arg0) = m' ((c.tc : Thread ReferenceIdeal.nD ReferenceIdeal.τ).loc ReferenceIdeal.main_arg0))
    (h1 : m ((c.tc : Thread nD τ).loc main_arg1) = m' ((c.tc : Thread ReferenceIdeal.nD ReferenceIdeal.τ).loc ReferenceIdeal.main_arg1))
    (h2 : m ((c.tc : Thread nD τ).loc main_arg2) = m' ((c.tc : Thread ReferenceIdeal.nD ReferenceIdeal.τ).loc ReferenceIdeal.main_arg2))
    (h3 : m ((c.tc : Thread nD τ).loc main_arg3) = m' ((c.tc : Thread ReferenceIdeal.nD ReferenceIdeal.τ).loc ReferenceIdeal.main_arg3))
    (h4 : m ((c.tc : Thread nD τ).loc main_arg4) = m' ((c.tc : Thread ReferenceIdeal.nD ReferenceIdeal.τ).loc ReferenceIdeal.main_arg4))
    (h5 : m ((c.tc : Thread nD τ).loc main_arg5) = m' ((c.tc : Thread ReferenceIdeal.nD ReferenceIdeal.τ).loc ReferenceIdeal.main_arg5))
    (h6 : m ((c.tc : Thread nD τ).loc main_arg6) = m' ((c.tc : Thread ReferenceIdeal.nD ReferenceIdeal.τ).loc ReferenceIdeal.main_arg6)) :
    (Stream.dats m 0 c).arrAt 6 cfg0.N = ReferenceIdeal.Value.res_main_v32 m' c := by
  have h := hpre c
  rw [h0, h1, h2, h3, h4, h5, h6] at h
  exact (Stream.final_eq m c _ (outAt_eq m c h0 h1 h2 h3 h4 h5 h6 (admitted _ _ _ _ _ _ _ h))).trans (ReferenceIdeal.Attend.result_eq m' c _ rfl).symm

/-- The kernel and the reference, on real numbers, leave one result, and their arguments as they were. -/
theorem algebraic : algebraic_KernelIdeal_ReferenceIdeal_pre_named_and_finite := by
  intro m g m' g' hpre hm
  refine ⟨fun c => ReferenceIdeal.Value.res_main_v32 m' c, (θ_run _ _ _).mono (fun r h c => ?_) (Stream.run_main m g), ?_⟩
  · obtain ⟨h0, h1, h2, h3, h4, h5, h6⟩ := hm c
    exact ⟨((h.1 c).1 6).trans (final_eq_result m m' c hpre h0.symm h1.symm h2.symm h3.symm h4.symm h5.symm h6.symm), Stream.args_kept m h.1 c⟩
  · exact ReferenceIdeal.Value.run m' g'

end Cert.Equal

end
-- ==== Proof.lean ====
module

public import proofs.«01_k».proof.Defs
public import proofs.«01_k».proof.Proof.KernelFrame
public import proofs.«01_k».proof.Proof.RefFrame
public import proofs.«01_k».proof.Proof.Equal

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Equal.stated,
  fun m g _ => Cert.Kernel.Stream.frame m g,
  fun m g _ => Cert.KernelIdeal.Stream.frame m g,
  fun m g _ => Cert.KernelIdeal.Stream.frame m g,
  fun m g _ => Cert.ReferenceIdeal.Attend.frame m g,
  fun m g _ => Cert.ReferenceIdeal.Attend.frame m g,
  trivial,
  Cert.Equal.algebraic⟩

end Cert.Proof

end
